-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![4096, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x8192 : Shape := ⟨2, ![4096, 8192]⟩
abbrev S4096x1024 : Shape := ⟨2, ![4096, 1024]⟩
abbrev S8x512x1024 : Shape := ⟨3, ![8, 512, 1024]⟩
abbrev S2x4096x512 : Shape := ⟨3, ![2, 4096, 512]⟩
abbrev S2x512x1024 : Shape := ⟨3, ![2, 512, 1024]⟩
abbrev S1x128 : Shape := ⟨2, ![1, 128]⟩
abbrev S8x128 : Shape := ⟨2, ![8, 128]⟩
abbrev S2 : Shape := ⟨1, ![2]⟩
abbrev S8 : Shape := ⟨1, ![8]⟩
abbrev S_ : Shape := ⟨0, ![]⟩
abbrev S1 : Shape := ⟨1, ![1]⟩
abbrev S1x4096x512 : Shape := ⟨3, ![1, 4096, 512]⟩
abbrev S4096x512 : Shape := ⟨2, ![4096, 512]⟩
abbrev S512x512 : Shape := ⟨2, ![512, 512]⟩
abbrev S1x512x512 : Shape := ⟨3, ![1, 512, 512]⟩
abbrev S1x1x1 : Shape := ⟨3, ![1, 1, 1]⟩
abbrev S1x512x1024 : Shape := ⟨3, ![1, 512, 1024]⟩
abbrev S128 : Shape := ⟨1, ![128]⟩
abbrev S1x8x128 : Shape := ⟨3, ![1, 8, 128]⟩
abbrev S512x1024 : Shape := ⟨2, ![512, 1024]⟩

abbrev nBuf : Space → Nat
  | .hbm => 3
  | .vmem => 9
  | .smem => 0
  | _ => 0

abbrev bufTy : (tb : Table) → Fin (tcTables nBuf tb) → BufTy
  | .hbm, ⟨0, _⟩ => ⟨S512x4096, .f32⟩
  | .hbm, ⟨1, _⟩ => ⟨S4096x8192, .f32⟩
  | .hbm, ⟨2, _⟩ => ⟨S4096x1024, .f32⟩
  | .local _ .vmem, ⟨0, _⟩ => ⟨S512x4096, .f32⟩
  | .local _ .vmem, ⟨1, _⟩ => ⟨S4096x1024, .f32⟩
  | .local _ .vmem, ⟨2, _⟩ => ⟨S8x512x1024, .bf16⟩
  | .local _ .vmem, ⟨3, _⟩ => ⟨S2x4096x512, .f32⟩
  | .local _ .vmem, ⟨4, _⟩ => ⟨S8x512x1024, .bf16⟩
  | .local _ .vmem, ⟨5, _⟩ => ⟨S2x512x1024, .fp8e4m3⟩
  | .local _ .vmem, ⟨6, _⟩ => ⟨S2x512x1024, .fp8e4m3⟩
  | .local _ .vmem, ⟨7, _⟩ => ⟨S1x128, .f32⟩
  | .local _ .vmem, ⟨8, _⟩ => ⟨S8x128, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_1234 : BitVec 32 := 0#32
  let c0_i32_1232 : BitVec 32 := 0#32
  let c1_i32_1233 : BitVec 32 := 1#32
  let v1524 : BitVec 32 := Scalar.muli c0_i32_1232 c1_i32_1233
  let v1525 : BitVec 32 := Scalar.addi c0_i32_1234 v1524
  v1525.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_1234 : BitVec 32 := 0#32
  let c1_i32_1232 : BitVec 32 := 1#32
  let c1_i32_1233 : BitVec 32 := 1#32
  let v1524 : BitVec 32 := Scalar.muli c1_i32_1232 c1_i32_1233
  let v1525 : BitVec 32 := Scalar.addi c0_i32_1234 v1524
  v1525.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_1234 : BitVec 32 := 0#32
  let c2_i32_1232 : BitVec 32 := 2#32
  let c1_i32_1233 : BitVec 32 := 1#32
  let v1524 : BitVec 32 := Scalar.muli c2_i32_1232 c1_i32_1233
  let v1525 : BitVec 32 := Scalar.addi c0_i32_1234 v1524
  v1525.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_1234 : BitVec 32 := 0#32
  let c3_i32_1232 : BitVec 32 := 3#32
  let c1_i32_1233 : BitVec 32 := 1#32
  let v1524 : BitVec 32 := Scalar.muli c3_i32_1232 c1_i32_1233
  let v1525 : BitVec 32 := Scalar.addi c0_i32_1234 v1524
  v1525.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_1234 : BitVec 32 := 0#32
  let c4_i32_1232 : BitVec 32 := 4#32
  let c1_i32_1233 : BitVec 32 := 1#32
  let v1524 : BitVec 32 := Scalar.muli c4_i32_1232 c1_i32_1233
  let v1525 : BitVec 32 := Scalar.addi c0_i32_1234 v1524
  v1525.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_1234 : BitVec 32 := 0#32
  let c5_i32_1232 : BitVec 32 := 5#32
  let c1_i32_1233 : BitVec 32 := 1#32
  let v1524 : BitVec 32 := Scalar.muli c5_i32_1232 c1_i32_1233
  let v1525 : BitVec 32 := Scalar.addi c0_i32_1234 v1524
  v1525.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_1234 : BitVec 32 := 0#32
  let c6_i32_1232 : BitVec 32 := 6#32
  let c1_i32_1233 : BitVec 32 := 1#32
  let v1524 : BitVec 32 := Scalar.muli c6_i32_1232 c1_i32_1233
  let v1525 : BitVec 32 := Scalar.addi c0_i32_1234 v1524
  v1525.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_1234 : BitVec 32 := 0#32
  let c7_i32_1232 : BitVec 32 := 7#32
  let c1_i32_1233 : BitVec 32 := 1#32
  let v1524 : BitVec 32 := Scalar.muli c7_i32_1232 c1_i32_1233
  let v1525 : BitVec 32 := Scalar.addi c0_i32_1234 v1524
  v1525.toNat
def k0_off1 (d0 : Dev nD) (c0_i32_11 : BitVec 32) (c0_i32_18 : BitVec 32) : Fin 2 → Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v28 : BitVec 32 := Scalar.addi v2 c1_i32_10
  let v29 : BitVec 32 := Scalar.addi v28 c0_i32_11
  let c8_i32_12 : BitVec 32 := 8#32
  let c0_i32_13 : BitVec 32 := 0#32
  let v30 : BitVec 1 := Scalar.cmpi .eq c8_i32_12 c0_i32_13
  let c1_i32_14 : BitVec 32 := 1#32
  let v31 : BitVec 32 := Scalar.select v30 c1_i32_14 c8_i32_12
  let v32 : BitVec 32 := Scalar.remsi v29 v31
  let c0_i32_16 : BitVec 32 := 0#32
  let v34 : BitVec 1 := Scalar.cmpi .slt v32 c0_i32_16
  let c0_i32_17 : BitVec 32 := 0#32
  let v35 : BitVec 1 := Scalar.cmpi .slt v31 c0_i32_17
  let v36 : BitVec 1 := Scalar.xori v34 v35
  let c0_i32_15 : BitVec 32 := 0#32
  let v33 : BitVec 1 := Scalar.cmpi .ne v32 c0_i32_15
  let v37 : BitVec 1 := Scalar.andi v36 v33
  let v38 : BitVec 32 := Scalar.addi v32 v31
  let v39 : BitVec 32 := Scalar.select v37 v38 v32
  let c1024_i32 : BitVec 32 := 1024#32
  let v40 : BitVec 32 := Scalar.muli v39 c1024_i32
  let v41 : BitVec 32 := Scalar.addi v40 c0_i32_18
  ![0, v41.toNat]
def k0_dev9 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_100 : BitVec 32 := 1#32
  let v155 : BitVec 32 := Scalar.addi v2 c1_i32_100
  let c0_i32_101 : BitVec 32 := 0#32
  let v156 : BitVec 32 := Scalar.addi v155 c0_i32_101
  let c8_i32_102 : BitVec 32 := 8#32
  let c0_i32_103 : BitVec 32 := 0#32
  let v157 : BitVec 1 := Scalar.cmpi .eq c8_i32_102 c0_i32_103
  let c1_i32_104 : BitVec 32 := 1#32
  let v158 : BitVec 32 := Scalar.select v157 c1_i32_104 c8_i32_102
  let v159 : BitVec 32 := Scalar.remsi v156 v158
  let c0_i32_106 : BitVec 32 := 0#32
  let v161 : BitVec 1 := Scalar.cmpi .slt v159 c0_i32_106
  let c0_i32_107 : BitVec 32 := 0#32
  let v162 : BitVec 1 := Scalar.cmpi .slt v158 c0_i32_107
  let v163 : BitVec 1 := Scalar.xori v161 v162
  let c0_i32_105 : BitVec 32 := 0#32
  let v160 : BitVec 1 := Scalar.cmpi .ne v159 c0_i32_105
  let v164 : BitVec 1 := Scalar.andi v163 v160
  let v165 : BitVec 32 := Scalar.addi v159 v158
  let v166 : BitVec 32 := Scalar.select v164 v165 v159
  let c1_i32_110 : BitVec 32 := 1#32
  let v167 : BitVec 32 := Scalar.muli v166 c1_i32_110
  let v168 : BitVec 32 := Scalar.addi c0_i32_111 v167
  v168.toNat
def k0_dev10 (d0 : Dev nD) : Nat :=
  let c0_i32_209 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_198 : BitVec 32 := 1#32
  let v283 : BitVec 32 := Scalar.addi v2 c1_i32_198
  let c1_i32_199 : BitVec 32 := 1#32
  let v284 : BitVec 32 := Scalar.addi v283 c1_i32_199
  let c8_i32_200 : BitVec 32 := 8#32
  let c0_i32_201 : BitVec 32 := 0#32
  let v285 : BitVec 1 := Scalar.cmpi .eq c8_i32_200 c0_i32_201
  let c1_i32_202 : BitVec 32 := 1#32
  let v286 : BitVec 32 := Scalar.select v285 c1_i32_202 c8_i32_200
  let v287 : BitVec 32 := Scalar.remsi v284 v286
  let c0_i32_204 : BitVec 32 := 0#32
  let v289 : BitVec 1 := Scalar.cmpi .slt v287 c0_i32_204
  let c0_i32_205 : BitVec 32 := 0#32
  let v290 : BitVec 1 := Scalar.cmpi .slt v286 c0_i32_205
  let v291 : BitVec 1 := Scalar.xori v289 v290
  let c0_i32_203 : BitVec 32 := 0#32
  let v288 : BitVec 1 := Scalar.cmpi .ne v287 c0_i32_203
  let v292 : BitVec 1 := Scalar.andi v291 v288
  let v293 : BitVec 32 := Scalar.addi v287 v286
  let v294 : BitVec 32 := Scalar.select v292 v293 v287
  let c1_i32_208 : BitVec 32 := 1#32
  let v295 : BitVec 32 := Scalar.muli v294 c1_i32_208
  let v296 : BitVec 32 := Scalar.addi c0_i32_209 v295
  v296.toNat
def k0_dev11 (d0 : Dev nD) : Nat :=
  let c0_i32_306 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_295 : BitVec 32 := 1#32
  let v411 : BitVec 32 := Scalar.addi v2 c1_i32_295
  let c2_i32_296 : BitVec 32 := 2#32
  let v412 : BitVec 32 := Scalar.addi v411 c2_i32_296
  let c8_i32_297 : BitVec 32 := 8#32
  let c0_i32_298 : BitVec 32 := 0#32
  let v413 : BitVec 1 := Scalar.cmpi .eq c8_i32_297 c0_i32_298
  let c1_i32_299 : BitVec 32 := 1#32
  let v414 : BitVec 32 := Scalar.select v413 c1_i32_299 c8_i32_297
  let v415 : BitVec 32 := Scalar.remsi v412 v414
  let c0_i32_301 : BitVec 32 := 0#32
  let v417 : BitVec 1 := Scalar.cmpi .slt v415 c0_i32_301
  let c0_i32_302 : BitVec 32 := 0#32
  let v418 : BitVec 1 := Scalar.cmpi .slt v414 c0_i32_302
  let v419 : BitVec 1 := Scalar.xori v417 v418
  let c0_i32_300 : BitVec 32 := 0#32
  let v416 : BitVec 1 := Scalar.cmpi .ne v415 c0_i32_300
  let v420 : BitVec 1 := Scalar.andi v419 v416
  let v421 : BitVec 32 := Scalar.addi v415 v414
  let v422 : BitVec 32 := Scalar.select v420 v421 v415
  let c1_i32_305 : BitVec 32 := 1#32
  let v423 : BitVec 32 := Scalar.muli v422 c1_i32_305
  let v424 : BitVec 32 := Scalar.addi c0_i32_306 v423
  v424.toNat
def k0_dev12 (d0 : Dev nD) : Nat :=
  let c0_i32_403 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_392 : BitVec 32 := 1#32
  let v539 : BitVec 32 := Scalar.addi v2 c1_i32_392
  let c3_i32_393 : BitVec 32 := 3#32
  let v540 : BitVec 32 := Scalar.addi v539 c3_i32_393
  let c8_i32_394 : BitVec 32 := 8#32
  let c0_i32_395 : BitVec 32 := 0#32
  let v541 : BitVec 1 := Scalar.cmpi .eq c8_i32_394 c0_i32_395
  let c1_i32_396 : BitVec 32 := 1#32
  let v542 : BitVec 32 := Scalar.select v541 c1_i32_396 c8_i32_394
  let v543 : BitVec 32 := Scalar.remsi v540 v542
  let c0_i32_398 : BitVec 32 := 0#32
  let v545 : BitVec 1 := Scalar.cmpi .slt v543 c0_i32_398
  let c0_i32_399 : BitVec 32 := 0#32
  let v546 : BitVec 1 := Scalar.cmpi .slt v542 c0_i32_399
  let v547 : BitVec 1 := Scalar.xori v545 v546
  let c0_i32_397 : BitVec 32 := 0#32
  let v544 : BitVec 1 := Scalar.cmpi .ne v543 c0_i32_397
  let v548 : BitVec 1 := Scalar.andi v547 v544
  let v549 : BitVec 32 := Scalar.addi v543 v542
  let v550 : BitVec 32 := Scalar.select v548 v549 v543
  let c1_i32_402 : BitVec 32 := 1#32
  let v551 : BitVec 32 := Scalar.muli v550 c1_i32_402
  let v552 : BitVec 32 := Scalar.addi c0_i32_403 v551
  v552.toNat
def k0_dev13 (d0 : Dev nD) : Nat :=
  let c0_i32_500 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_489 : BitVec 32 := 1#32
  let v667 : BitVec 32 := Scalar.addi v2 c1_i32_489
  let c4_i32_490 : BitVec 32 := 4#32
  let v668 : BitVec 32 := Scalar.addi v667 c4_i32_490
  let c8_i32_491 : BitVec 32 := 8#32
  let c0_i32_492 : BitVec 32 := 0#32
  let v669 : BitVec 1 := Scalar.cmpi .eq c8_i32_491 c0_i32_492
  let c1_i32_493 : BitVec 32 := 1#32
  let v670 : BitVec 32 := Scalar.select v669 c1_i32_493 c8_i32_491
  let v671 : BitVec 32 := Scalar.remsi v668 v670
  let c0_i32_495 : BitVec 32 := 0#32
  let v673 : BitVec 1 := Scalar.cmpi .slt v671 c0_i32_495
  let c0_i32_496 : BitVec 32 := 0#32
  let v674 : BitVec 1 := Scalar.cmpi .slt v670 c0_i32_496
  let v675 : BitVec 1 := Scalar.xori v673 v674
  let c0_i32_494 : BitVec 32 := 0#32
  let v672 : BitVec 1 := Scalar.cmpi .ne v671 c0_i32_494
  let v676 : BitVec 1 := Scalar.andi v675 v672
  let v677 : BitVec 32 := Scalar.addi v671 v670
  let v678 : BitVec 32 := Scalar.select v676 v677 v671
  let c1_i32_499 : BitVec 32 := 1#32
  let v679 : BitVec 32 := Scalar.muli v678 c1_i32_499
  let v680 : BitVec 32 := Scalar.addi c0_i32_500 v679
  v680.toNat
def k0_dev14 (d0 : Dev nD) : Nat :=
  let c0_i32_745 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_735 : BitVec 32 := 1#32
  let v1001 : BitVec 32 := Scalar.addi v2 c1_i32_735
  let c8_i32_736 : BitVec 32 := 8#32
  let c0_i32_737 : BitVec 32 := 0#32
  let v1002 : BitVec 1 := Scalar.cmpi .eq c8_i32_736 c0_i32_737
  let c1_i32_738 : BitVec 32 := 1#32
  let v1003 : BitVec 32 := Scalar.select v1002 c1_i32_738 c8_i32_736
  let v1004 : BitVec 32 := Scalar.remsi v1001 v1003
  let c0_i32_740 : BitVec 32 := 0#32
  let v1006 : BitVec 1 := Scalar.cmpi .slt v1004 c0_i32_740
  let c0_i32_741 : BitVec 32 := 0#32
  let v1007 : BitVec 1 := Scalar.cmpi .slt v1003 c0_i32_741
  let v1008 : BitVec 1 := Scalar.xori v1006 v1007
  let c0_i32_739 : BitVec 32 := 0#32
  let v1005 : BitVec 1 := Scalar.cmpi .ne v1004 c0_i32_739
  let v1009 : BitVec 1 := Scalar.andi v1008 v1005
  let v1010 : BitVec 32 := Scalar.addi v1004 v1003
  let v1011 : BitVec 32 := Scalar.select v1009 v1010 v1004
  let c1_i32_744 : BitVec 32 := 1#32
  let v1012 : BitVec 32 := Scalar.muli v1011 c1_i32_744
  let v1013 : BitVec 32 := Scalar.addi c0_i32_745 v1012
  v1013.toNat
def k0_dev15 (d0 : Dev nD) : Nat :=
  let c0_i32_758 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_748 : BitVec 32 := 2#32
  let v1019 : BitVec 32 := Scalar.addi v2 c2_i32_748
  let c8_i32_749 : BitVec 32 := 8#32
  let c0_i32_750 : BitVec 32 := 0#32
  let v1020 : BitVec 1 := Scalar.cmpi .eq c8_i32_749 c0_i32_750
  let c1_i32_751 : BitVec 32 := 1#32
  let v1021 : BitVec 32 := Scalar.select v1020 c1_i32_751 c8_i32_749
  let v1022 : BitVec 32 := Scalar.remsi v1019 v1021
  let c0_i32_753 : BitVec 32 := 0#32
  let v1024 : BitVec 1 := Scalar.cmpi .slt v1022 c0_i32_753
  let c0_i32_754 : BitVec 32 := 0#32
  let v1025 : BitVec 1 := Scalar.cmpi .slt v1021 c0_i32_754
  let v1026 : BitVec 1 := Scalar.xori v1024 v1025
  let c0_i32_752 : BitVec 32 := 0#32
  let v1023 : BitVec 1 := Scalar.cmpi .ne v1022 c0_i32_752
  let v1027 : BitVec 1 := Scalar.andi v1026 v1023
  let v1028 : BitVec 32 := Scalar.addi v1022 v1021
  let v1029 : BitVec 32 := Scalar.select v1027 v1028 v1022
  let c1_i32_757 : BitVec 32 := 1#32
  let v1030 : BitVec 32 := Scalar.muli v1029 c1_i32_757
  let v1031 : BitVec 32 := Scalar.addi c0_i32_758 v1030
  v1031.toNat
def k0_dev16 (d0 : Dev nD) : Nat :=
  let c0_i32_771 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_761 : BitVec 32 := 3#32
  let v1037 : BitVec 32 := Scalar.addi v2 c3_i32_761
  let c8_i32_762 : BitVec 32 := 8#32
  let c0_i32_763 : BitVec 32 := 0#32
  let v1038 : BitVec 1 := Scalar.cmpi .eq c8_i32_762 c0_i32_763
  let c1_i32_764 : BitVec 32 := 1#32
  let v1039 : BitVec 32 := Scalar.select v1038 c1_i32_764 c8_i32_762
  let v1040 : BitVec 32 := Scalar.remsi v1037 v1039
  let c0_i32_766 : BitVec 32 := 0#32
  let v1042 : BitVec 1 := Scalar.cmpi .slt v1040 c0_i32_766
  let c0_i32_767 : BitVec 32 := 0#32
  let v1043 : BitVec 1 := Scalar.cmpi .slt v1039 c0_i32_767
  let v1044 : BitVec 1 := Scalar.xori v1042 v1043
  let c0_i32_765 : BitVec 32 := 0#32
  let v1041 : BitVec 1 := Scalar.cmpi .ne v1040 c0_i32_765
  let v1045 : BitVec 1 := Scalar.andi v1044 v1041
  let v1046 : BitVec 32 := Scalar.addi v1040 v1039
  let v1047 : BitVec 32 := Scalar.select v1045 v1046 v1040
  let c1_i32_770 : BitVec 32 := 1#32
  let v1048 : BitVec 32 := Scalar.muli v1047 c1_i32_770
  let v1049 : BitVec 32 := Scalar.addi c0_i32_771 v1048
  v1049.toNat
def k0_dev17 (d0 : Dev nD) : Nat :=
  let c0_i32_784 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_774 : BitVec 32 := 4#32
  let v1055 : BitVec 32 := Scalar.addi v2 c4_i32_774
  let c8_i32_775 : BitVec 32 := 8#32
  let c0_i32_776 : BitVec 32 := 0#32
  let v1056 : BitVec 1 := Scalar.cmpi .eq c8_i32_775 c0_i32_776
  let c1_i32_777 : BitVec 32 := 1#32
  let v1057 : BitVec 32 := Scalar.select v1056 c1_i32_777 c8_i32_775
  let v1058 : BitVec 32 := Scalar.remsi v1055 v1057
  let c0_i32_779 : BitVec 32 := 0#32
  let v1060 : BitVec 1 := Scalar.cmpi .slt v1058 c0_i32_779
  let c0_i32_780 : BitVec 32 := 0#32
  let v1061 : BitVec 1 := Scalar.cmpi .slt v1057 c0_i32_780
  let v1062 : BitVec 1 := Scalar.xori v1060 v1061
  let c0_i32_778 : BitVec 32 := 0#32
  let v1059 : BitVec 1 := Scalar.cmpi .ne v1058 c0_i32_778
  let v1063 : BitVec 1 := Scalar.andi v1062 v1059
  let v1064 : BitVec 32 := Scalar.addi v1058 v1057
  let v1065 : BitVec 32 := Scalar.select v1063 v1064 v1058
  let c1_i32_783 : BitVec 32 := 1#32
  let v1066 : BitVec 32 := Scalar.muli v1065 c1_i32_783
  let v1067 : BitVec 32 := Scalar.addi c0_i32_784 v1066
  v1067.toNat
def k0_dev18 (d0 : Dev nD) : Nat :=
  let c0_i32_797 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_787 : BitVec 32 := 5#32
  let v1073 : BitVec 32 := Scalar.addi v2 c5_i32_787
  let c8_i32_788 : BitVec 32 := 8#32
  let c0_i32_789 : BitVec 32 := 0#32
  let v1074 : BitVec 1 := Scalar.cmpi .eq c8_i32_788 c0_i32_789
  let c1_i32_790 : BitVec 32 := 1#32
  let v1075 : BitVec 32 := Scalar.select v1074 c1_i32_790 c8_i32_788
  let v1076 : BitVec 32 := Scalar.remsi v1073 v1075
  let c0_i32_792 : BitVec 32 := 0#32
  let v1078 : BitVec 1 := Scalar.cmpi .slt v1076 c0_i32_792
  let c0_i32_793 : BitVec 32 := 0#32
  let v1079 : BitVec 1 := Scalar.cmpi .slt v1075 c0_i32_793
  let v1080 : BitVec 1 := Scalar.xori v1078 v1079
  let c0_i32_791 : BitVec 32 := 0#32
  let v1077 : BitVec 1 := Scalar.cmpi .ne v1076 c0_i32_791
  let v1081 : BitVec 1 := Scalar.andi v1080 v1077
  let v1082 : BitVec 32 := Scalar.addi v1076 v1075
  let v1083 : BitVec 32 := Scalar.select v1081 v1082 v1076
  let c1_i32_796 : BitVec 32 := 1#32
  let v1084 : BitVec 32 := Scalar.muli v1083 c1_i32_796
  let v1085 : BitVec 32 := Scalar.addi c0_i32_797 v1084
  v1085.toNat
def k0_dev19 (d0 : Dev nD) : Nat :=
  let c0_i32_810 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_800 : BitVec 32 := 6#32
  let v1091 : BitVec 32 := Scalar.addi v2 c6_i32_800
  let c8_i32_801 : BitVec 32 := 8#32
  let c0_i32_802 : BitVec 32 := 0#32
  let v1092 : BitVec 1 := Scalar.cmpi .eq c8_i32_801 c0_i32_802
  let c1_i32_803 : BitVec 32 := 1#32
  let v1093 : BitVec 32 := Scalar.select v1092 c1_i32_803 c8_i32_801
  let v1094 : BitVec 32 := Scalar.remsi v1091 v1093
  let c0_i32_805 : BitVec 32 := 0#32
  let v1096 : BitVec 1 := Scalar.cmpi .slt v1094 c0_i32_805
  let c0_i32_806 : BitVec 32 := 0#32
  let v1097 : BitVec 1 := Scalar.cmpi .slt v1093 c0_i32_806
  let v1098 : BitVec 1 := Scalar.xori v1096 v1097
  let c0_i32_804 : BitVec 32 := 0#32
  let v1095 : BitVec 1 := Scalar.cmpi .ne v1094 c0_i32_804
  let v1099 : BitVec 1 := Scalar.andi v1098 v1095
  let v1100 : BitVec 32 := Scalar.addi v1094 v1093
  let v1101 : BitVec 32 := Scalar.select v1099 v1100 v1094
  let c1_i32_809 : BitVec 32 := 1#32
  let v1102 : BitVec 32 := Scalar.muli v1101 c1_i32_809
  let v1103 : BitVec 32 := Scalar.addi c0_i32_810 v1102
  v1103.toNat
def k0_dev20 (d0 : Dev nD) : Nat :=
  let c0_i32_823 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_813 : BitVec 32 := 7#32
  let v1109 : BitVec 32 := Scalar.addi v2 c7_i32_813
  let c8_i32_814 : BitVec 32 := 8#32
  let c0_i32_815 : BitVec 32 := 0#32
  let v1110 : BitVec 1 := Scalar.cmpi .eq c8_i32_814 c0_i32_815
  let c1_i32_816 : BitVec 32 := 1#32
  let v1111 : BitVec 32 := Scalar.select v1110 c1_i32_816 c8_i32_814
  let v1112 : BitVec 32 := Scalar.remsi v1109 v1111
  let c0_i32_818 : BitVec 32 := 0#32
  let v1114 : BitVec 1 := Scalar.cmpi .slt v1112 c0_i32_818
  let c0_i32_819 : BitVec 32 := 0#32
  let v1115 : BitVec 1 := Scalar.cmpi .slt v1111 c0_i32_819
  let v1116 : BitVec 1 := Scalar.xori v1114 v1115
  let c0_i32_817 : BitVec 32 := 0#32
  let v1113 : BitVec 1 := Scalar.cmpi .ne v1112 c0_i32_817
  let v1117 : BitVec 1 := Scalar.andi v1116 v1113
  let v1118 : BitVec 32 := Scalar.addi v1112 v1111
  let v1119 : BitVec 32 := Scalar.select v1117 v1118 v1112
  let c1_i32_822 : BitVec 32 := 1#32
  let v1120 : BitVec 32 := Scalar.muli v1119 c1_i32_822
  let v1121 : BitVec 32 := Scalar.addi c0_i32_823 v1120
  v1121.toNat
def k0_dev21 (d0 : Dev nD) : Nat :=
  let c0_i32_901 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_882 : BitVec 32 := 1#32
  let v1171 : BitVec 32 := Scalar.addi v2 c1_i32_882
  let c5_i32_883 : BitVec 32 := 5#32
  let v1172 : BitVec 32 := Scalar.addi v1171 c5_i32_883
  let c8_i32_884 : BitVec 32 := 8#32
  let c0_i32_885 : BitVec 32 := 0#32
  let v1173 : BitVec 1 := Scalar.cmpi .eq c8_i32_884 c0_i32_885
  let c1_i32_886 : BitVec 32 := 1#32
  let v1174 : BitVec 32 := Scalar.select v1173 c1_i32_886 c8_i32_884
  let v1175 : BitVec 32 := Scalar.remsi v1172 v1174
  let c0_i32_888 : BitVec 32 := 0#32
  let v1177 : BitVec 1 := Scalar.cmpi .slt v1175 c0_i32_888
  let c0_i32_889 : BitVec 32 := 0#32
  let v1178 : BitVec 1 := Scalar.cmpi .slt v1174 c0_i32_889
  let v1179 : BitVec 1 := Scalar.xori v1177 v1178
  let c0_i32_887 : BitVec 32 := 0#32
  let v1176 : BitVec 1 := Scalar.cmpi .ne v1175 c0_i32_887
  let v1180 : BitVec 1 := Scalar.andi v1179 v1176
  let v1181 : BitVec 32 := Scalar.addi v1175 v1174
  let v1182 : BitVec 32 := Scalar.select v1180 v1181 v1175
  let c1_i32_900 : BitVec 32 := 1#32
  let v1196 : BitVec 32 := Scalar.muli v1182 c1_i32_900
  let v1197 : BitVec 32 := Scalar.addi c0_i32_901 v1196
  v1197.toNat
def k0_dev22 (d0 : Dev nD) : Nat :=
  let c0_i32_927 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_908 : BitVec 32 := 1#32
  let v1204 : BitVec 32 := Scalar.addi v2 c1_i32_908
  let c6_i32_909 : BitVec 32 := 6#32
  let v1205 : BitVec 32 := Scalar.addi v1204 c6_i32_909
  let c8_i32_910 : BitVec 32 := 8#32
  let c0_i32_911 : BitVec 32 := 0#32
  let v1206 : BitVec 1 := Scalar.cmpi .eq c8_i32_910 c0_i32_911
  let c1_i32_912 : BitVec 32 := 1#32
  let v1207 : BitVec 32 := Scalar.select v1206 c1_i32_912 c8_i32_910
  let v1208 : BitVec 32 := Scalar.remsi v1205 v1207
  let c0_i32_914 : BitVec 32 := 0#32
  let v1210 : BitVec 1 := Scalar.cmpi .slt v1208 c0_i32_914
  let c0_i32_915 : BitVec 32 := 0#32
  let v1211 : BitVec 1 := Scalar.cmpi .slt v1207 c0_i32_915
  let v1212 : BitVec 1 := Scalar.xori v1210 v1211
  let c0_i32_913 : BitVec 32 := 0#32
  let v1209 : BitVec 1 := Scalar.cmpi .ne v1208 c0_i32_913
  let v1213 : BitVec 1 := Scalar.andi v1212 v1209
  let v1214 : BitVec 32 := Scalar.addi v1208 v1207
  let v1215 : BitVec 32 := Scalar.select v1213 v1214 v1208
  let c1_i32_926 : BitVec 32 := 1#32
  let v1229 : BitVec 32 := Scalar.muli v1215 c1_i32_926
  let v1230 : BitVec 32 := Scalar.addi c0_i32_927 v1229
  v1230.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_939 : BitVec 32 := 512#32
  let v1250 : BitVec 32 := Scalar.muli v2 c512_i32_939
  let v1251 : Index := Scalar.indexCast v1250
  let c0_940 : Index := 0#32
  ![v1251.toNat, 0]
def k0_off3 (d0 : Dev nD) (c0_i32_942 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_941 : BitVec 32 := 1#32
  let v1253 : BitVec 32 := Scalar.subi v2 c1_i32_941
  let v1254 : BitVec 32 := Scalar.subi v1253 c0_i32_942
  let c8_i32_943 : BitVec 32 := 8#32
  let c0_i32_944 : BitVec 32 := 0#32
  let v1255 : BitVec 1 := Scalar.cmpi .eq c8_i32_943 c0_i32_944
  let c1_i32_945 : BitVec 32 := 1#32
  let v1256 : BitVec 32 := Scalar.select v1255 c1_i32_945 c8_i32_943
  let v1257 : BitVec 32 := Scalar.remsi v1254 v1256
  let c0_i32_947 : BitVec 32 := 0#32
  let v1259 : BitVec 1 := Scalar.cmpi .slt v1257 c0_i32_947
  let c0_i32_948 : BitVec 32 := 0#32
  let v1260 : BitVec 1 := Scalar.cmpi .slt v1256 c0_i32_948
  let v1261 : BitVec 1 := Scalar.xori v1259 v1260
  let c0_i32_946 : BitVec 32 := 0#32
  let v1258 : BitVec 1 := Scalar.cmpi .ne v1257 c0_i32_946
  let v1262 : BitVec 1 := Scalar.andi v1261 v1258
  let v1263 : BitVec 32 := Scalar.addi v1257 v1256
  let v1264 : BitVec 32 := Scalar.select v1262 v1263 v1257
  let c512_i32_965 : BitVec 32 := 512#32
  let v1284 : BitVec 32 := Scalar.muli v1264 c512_i32_965
  let v1285 : Index := Scalar.indexCast v1284
  let c0_966 : Index := 0#32
  ![v1285.toNat, 0]
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1x4096x8192 : Shape := ⟨3, ![1, 4096, 8192]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .local _ .vmem, ⟨0, _⟩ => ⟨S4096x4096, .f32⟩
  | .local _ .vmem, ⟨1, _⟩ => ⟨S4096x8192, .f32⟩
  | .local _ .vmem, ⟨2, _⟩ => ⟨S4096x8192, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Prog.lean ====
/-
The kernel's body told a second time, in the few kinds of step it consists of: start a weight tile,
multiply a tile, send a chunk, exchange the row of maxima, quantise, collect. Each kind is one function of
the chunk and the half it works on, so that each is proved once. `body_eq` says the printed text is
the opening handshake and then this sequence.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.QMM

open Cert.KernelIdeal Cert.KernelIdeal.Gen

open Idealize.ShloMosaic
open Idealize.ShloMosaic.TcCoe
open Idealize.SL.Sem

variable {F : FTy → Type} [FloatOps F]

/-! ## The buffers -/

abbrev xM : Memref sig .tc .vmem S512x4096 .f32 := Memref.whole cc0_stg0_0
abbrev wM : Memref sig .tc .hbm S4096x8192 .f32 := Memref.whole main_arg1
abbrev oM : Memref sig .tc .vmem S4096x1024 .f32 := Memref.whole cc0_stg1_0
abbrev qM : Memref sig .tc .vmem S8x512x1024 .bf16 := Memref.whole cc0_scratch0
abbrev bM : Memref sig .tc .vmem S2x4096x512 .f32 := Memref.whole cc0_scratch1
abbrev rM : Memref sig .tc .vmem S8x512x1024 .bf16 := Memref.whole cc0_scratch2
abbrev q4M : Memref sig .tc .vmem S2x512x1024 .fp8e4m3 := Memref.whole cc0_scratch3
abbrev r4M : Memref sig .tc .vmem S2x512x1024 .fp8e4m3 := Memref.whole cc0_scratch4
abbrev tM : Memref sig .tc .vmem S1x128 .f32 := Memref.whole cc0_scratch5
abbrev aM : Memref sig .tc .vmem S8x128 .f32 := Memref.whole cc0_scratch6

/-! ## The boxes the steps touch -/

/-- The parts lie in their buffers: half of a chunk, -/
theorem inb_half (j : Fin 8) (h : Fin 2) : ∀ a, (![j.val, 0, 512 * h.val] : Fin 3 → Nat) a + S1x512x512.size a ≤ S8x512x1024.size a := by
  revert j h; decide
/-- a chunk, -/
theorem inb_chunk (j : Fin 8) : ∀ a, (![j.val, 0, 0] : Fin 3 → Nat) a + S1x512x1024.size a ≤ S8x512x1024.size a := by
  revert j; decide
/-- a narrow chunk, -/
theorem inb_chunk4 (e : Fin 2) : ∀ a, (![e.val, 0, 0] : Fin 3 → Nat) a + S1x512x1024.size a ≤ S2x512x1024.size a := by
  revert e; decide
/-- a tile slot, -/
theorem inb_slot (h : Fin 2) : ∀ a, (![h.val, 0, 0] : Fin 3 → Nat) a + S1x4096x512.size a ≤ S2x4096x512.size a := by
  revert h; decide
/-- a row of maxima, -/
theorem inb_row (k : Fin 8) : ∀ a, (![k.val, 0] : Fin 2 → Nat) a + S1x128.size a ≤ S8x128.size a := by
  revert k; decide
/-- one of eight counters, -/
theorem inb_s8 (k : Fin 8) : ∀ a, (![k.val] : Fin 1 → Nat) a + S1.size a ≤ S8.size a := by
  revert k; decide
/-- one of two. -/
theorem inb_s2 (k : Fin 2) : ∀ a, (![k.val] : Fin 1 → Nat) a + S1.size a ≤ S2.size a := by
  revert k; decide

/-- Half `h` of chunk `j` of the outgoing tile buffer. -/
abbrev halfR (j : Fin 8) (h : Fin 2) : Rect S8x512x1024 := Rect.unit (s := S8x512x1024) ![j.val, 0, 512 * h.val] S1x512x512.size (inb_half j h)
/-- Chunk `j` of an eight-chunk buffer. -/
abbrev chunkR (j : Fin 8) : Rect S8x512x1024 := Rect.unit (s := S8x512x1024) ![j.val, 0, 0] S1x512x1024.size (inb_chunk j)
/-- Chunk `e` of a two-chunk buffer. -/
abbrev chunk4R (e : Fin 2) : Rect S2x512x1024 := Rect.unit (s := S2x512x1024) ![e.val, 0, 0] S1x512x1024.size (inb_chunk4 e)
/-- Slot `h` of the weight buffer. -/
abbrev slotR (h : Fin 2) : Rect S2x4096x512 := Rect.unit (s := S2x4096x512) ![h.val, 0, 0] S1x4096x512.size (inb_slot h)
/-- Row `k` of the maxima. -/
abbrev rowR (k : Fin 8) : Rect S8x128 := Rect.unit (s := S8x128) ![k.val, 0] S1x128.size (inb_row k)
/-- The weight tile of chunk `j`, half `h`, as device `c` names it. -/
abbrev tileR (c : Dev nD) (j : Fin 8) (h : Fin 2) : Rect S4096x8192 :=
  Rect.unit (s := S4096x8192) (k0_off1 c (BitVec.ofNat 32 j.val) (BitVec.ofNat 32 (512 * h.val))) S4096x512.size (k0_off1_inb c j h)
/-- The rows of the result the device's own block takes. -/
abbrev ownR (c : Dev nD) : Rect S4096x1024 := Rect.unit (s := S4096x1024) (k0_off2 c) S512x1024.size (k0_off2_inb c)
/-- The rows of the result the chunk received on channel `r` takes. -/
abbrev farR (c : Dev nD) (r : Fin 7) : Rect S4096x1024 :=
  Rect.unit (s := S4096x1024) (k0_off3 c (BitVec.ofNat 32 r.val)) S512x1024.size (k0_off3_inb c r)

/-- Packed elements are written in whole words: a half of a chunk, -/
theorem packed_half (j : Fin 8) (h : Fin 2) : (halfR j h).PackedRows (EltTy.packing .bf16) := by revert j h; decide
/-- a chunk, -/
theorem words_chunk (j : Fin 8) : (chunkR j).WholeWords (EltTy.packing .bf16) := by revert j; decide
/-- a narrow chunk, -/
theorem words_chunk4 (e : Fin 2) : (chunk4R e).WholeWords (EltTy.packing .fp8e4m3) := by revert e; decide
/-- also when stored. -/
theorem packed_chunk4 (e : Fin 2) : (chunk4R e).PackedRows (EltTy.packing .fp8e4m3) := by revert e; decide

/-! ## The memrefs and semaphores of the copies -/

abbrev slotM (h : Fin 2) : Memref sig .tc .vmem S4096x512 .f32 :=
  (bM.slice (slotR h) (fun _ => rfl)).squeeze S4096x512 squeezes_S1x4096x512_S4096x512
abbrev tileM (c : Dev nD) (j : Fin 8) (h : Fin 2) : Memref sig .tc .hbm S4096x512 .f32 := wM.slice (tileR c j h) (fun _ => rfl)
abbrev qC (j : Fin 8) : Memref sig .tc .vmem S1x512x1024 .bf16 := qM.slice (chunkR j) (fun _ => rfl)
abbrev rC (j : Fin 8) : Memref sig .tc .vmem S1x512x1024 .bf16 := rM.slice (chunkR j) (fun _ => rfl)
abbrev q4C (e : Fin 2) : Memref sig .tc .vmem S1x512x1024 .fp8e4m3 := q4M.slice (chunk4R e) (fun _ => rfl)
abbrev r4C (e : Fin 2) : Memref sig .tc .vmem S1x512x1024 .fp8e4m3 := r4M.slice (chunk4R e) (fun _ => rfl)
abbrev aRow (k : Fin 8) : Memref sig .tc .vmem S1x128 .f32 := aM.slice (rowR k) (fun _ => rfl)

abbrev pick8 (S : DmaSems sig S8) (k : Fin 8) : DmaSem sig := ((S.slice (Rect.unit (s := S8) ![k.val] S1.size (inb_s8 k))).squeeze S_ squeezes_S1_S_).sem
/-- The semaphore of the local copy into slot `h`. -/
abbrev wS (h : Fin 2) : DmaSem sig := ((cc0_scratch7.slice (Rect.unit (s := S2) ![h.val] S1.size (inb_s2 h))).squeeze S_ squeezes_S1_S_).sem
abbrev sendS (j : Fin 8) : DmaSem sig := pick8 cc0_scratch8 j
abbrev recvS (j : Fin 8) : DmaSem sig := pick8 cc0_scratch9 j
abbrev asendS (k : Fin 8) : DmaSem sig := pick8 cc0_scratch10 k
abbrev arecvS (k : Fin 8) : DmaSem sig := pick8 cc0_scratch11 k

/-! ## The payloads -/

/-- The tile of `x` times `w` that is stored. -/
abbrev tileV (x : Vec F S512x4096 .f32) (w : Vec F S1x4096x512 .f32) : FVec F S1x512x512 .bf16 := k0_pay6 x w
/-- The running maximum after that tile. -/
abbrev amV (a : F .f32) (x : Vec F S512x4096 .f32) (w : Vec F S1x4096x512 .f32) : F .f32 := k0_pay7 a x w
/-- The running maximum the first tile starts from. -/
abbrev am0 : F .f32 := Scalar.ofBits .f32 0x00000000#32
/-- The row of maxima a device sends. -/
abbrev txV (a : F .f32) : FVec F S1x128 .f32 := shapeCast S1x128 (broadcast S1x128 a) shapeCasts_S1x128_S1x128

/-! ## The steps -/

abbrev PP (F : FTy → Type) : Type → Type _ := Prog (TpuEff nD τ sig (Elt F) Λ₀ .tc)

/-- Start copying the weight tile of chunk `j`, half `h`, into slot `h`. -/
def startW (c : Dev nD) (j : Fin 8) (h : Fin 2) : PP F PUnit :=
  Prog.lift (.enqueueDma (tileM c j h) (.here (slotM h)) (.dma (wS h)) (View.wordExact_bits rfl) ((View.wordExact_bits rfl).reshape _ _) ⟨Or.inl rfl, trivial⟩)

/-- Wait for that tile, multiply by it, store the product into its half, and take the maximum along. -/
def gemm (c : Dev nD) (j : Fin 8) (h : Fin 2) (a : F .f32) : PP F (F .f32) := do
  Prog.lift (.waitDma2 (wS h) (tileM c j h) (slotM h) (View.wordExact_bits rfl) ((View.wordExact_bits rfl).reshape _ _))
  let x : Vec F S512x4096 .f32 ← Prog.lift (.load xM (Rect.unit (s := S512x4096) ![0, 0] S512x4096.size inb_S512x4096_S512x4096_0_0).toLoadRect (View.loadsAt_vmem h_S512x4096))
  let w : Vec F S1x4096x512 .f32 ← Prog.lift (.load bM (slotR h).toLoadRect (View.loadsAt_vmem h_S1x4096x512))
  let _q : Vec F S1x512x512 .bf16 ← Prog.lift (.load qM (halfR j h).toLoadRect (View.loadsAt_vmem h_S1x512x512))
  Prog.lift (.store qM (halfR j h) (tileV x w) Finset.univ (View.stores_vmem h_S1x512x512 ((Memref.isWhole_whole _).storeExact_slice rfl _ (packed_half j h)) (fun _ => rfl)) (.inl rfl))
  pure (amV a x w)

/-- Send chunk `j` to device `n`. -/
def sendQ (j : Fin 8) (n : Dev nD) : PP F PUnit :=
  Prog.lift (.enqueueDma (qC j) (.remote (Dev.tc n) (rC j) (.dma (sendS j))) (.dma (recvS j)) ((Memref.isWhole_whole _).wordExact_slice rfl _ (words_chunk j)) ((Memref.isWhole_whole _).wordExact_slice rfl _ (words_chunk j)) ⟨⟨rfl, Or.inl rfl⟩, trivial⟩)

/-- Broadcast the device's maximum into its outgoing row and into row 0 of the maxima. -/
def putMax (a : F .f32) : PP F PUnit := do
  let _t : Vec F S1x128 .f32 ← Prog.lift (.load tM (Rect.unit (s := S1x128) ![0, 0] S1x128.size inb_S1x128_S1x128_0_0).toLoadRect (View.loadsAt_vmem h_S1x128))
  Prog.lift (.store tM (Rect.unit (s := S1x128) ![0, 0] S1x128.size inb_S1x128_S1x128_0_0) (txV a) Finset.univ (View.stores_vmem_bits_univ h_S1x128 rfl) (.inl rfl))
  let t : Vec F S1x128 .f32 ← Prog.lift (.load tM (Rect.unit (s := S1x128) ![0, 0] S1x128.size inb_S1x128_S1x128_0_0).toLoadRect (View.loadsAt_vmem h_S1x128))
  let _r : Vec F S1x128 .f32 ← Prog.lift (.load aM (rowR 0).toLoadRect (View.loadsAt_vmem h_S1x128))
  Prog.lift (.store aM (rowR 0) (k0_pay54 t) Finset.univ (View.stores_vmem_bits_univ h_S1x128 rfl) (.inl rfl))

/-- Send the row of maxima to device `n`, into its row `k`. -/
def sendA (k : Fin 8) (n : Dev nD) : PP F PUnit :=
  Prog.lift (.enqueueDma tM (.remote (Dev.tc n) (aRow k) (.dma (asendS k))) (.dma (arecvS k)) (Memref.isWhole_whole _).wordExact (View.wordExact_bits rfl) ⟨⟨rfl, Or.inl rfl⟩, trivial⟩)

/-- Wait for row `k` of the maxima. -/
def waitA (k : Fin 8) : PP F PUnit :=
  Prog.lift (.waitDma2 (arecvS k) tM (aRow k) (Memref.isWhole_whole _).wordExact (View.wordExact_bits rfl))

/-- Read all the maxima. -/
def readMax : PP F (Vec F S8x128 .f32) :=
  Prog.lift (.load aM (Rect.unit (s := S8x128) ![0, 0] S8x128.size inb_S8x128_S8x128_0_0).toLoadRect (View.loadsAt_vmem h_S8x128))

/-- Quantise the chunk `j` into the narrow buffer's chunk `e`. -/
def quant (j : Fin 8) (e : Fin 2) (inv : F .f32) : PP F PUnit := do
  let q : Vec F S1x512x1024 .bf16 ← Prog.lift (.load qM (chunkR j).toLoadRect (View.loadsAt_vmem h_S1x512x1024))
  let _p : Vec F S1x512x1024 .fp8e4m3 ← Prog.lift (.load q4M (chunk4R e).toLoadRect (View.loadsAt_vmem h_S1x512x1024))
  Prog.lift (.store q4M (chunk4R e) (k0_pay58 inv q) Finset.univ (View.stores_vmem h_S1x512x1024 ((Memref.isWhole_whole _).storeExact_slice rfl _ (packed_chunk4 e)) (fun _ => rfl)) (.inl rfl))

/-- Send the narrow chunk `e` to device `n` on channel `j`. -/
def sendQ4 (e : Fin 2) (j : Fin 8) (n : Dev nD) : PP F PUnit :=
  Prog.lift (.enqueueDma (q4C e) (.remote (Dev.tc n) (r4C e) (.dma (sendS j))) (.dma (recvS j)) ((Memref.isWhole_whole _).wordExact_slice rfl _ (words_chunk4 e)) ((Memref.isWhole_whole _).wordExact_slice rfl _ (words_chunk4 e)) ⟨⟨rfl, Or.inl rfl⟩, trivial⟩)

/-- The device's own block of the result. -/
def ownOut (c : Dev nD) (sc inv : F .f32) : PP F PUnit := do
  let q : Vec F S1x512x1024 .bf16 ← Prog.lift (.load qM (chunkR 7).toLoadRect (View.loadsAt_vmem h_S1x512x1024))
  let _o : Vec F S512x1024 .f32 ← Prog.lift (.load oM (ownR c).toLoadRect (View.loadsAt_vmem h_S512x1024))
  Prog.lift (.store oM (ownR c) (k0_pay60 sc inv q) Finset.univ (View.stores_vmem_bits_univ h_S512x1024 rfl) (.inl rfl))

/-- The block of the result that arrives on channel `r`, as a wide chunk. -/
def farOut (c : Dev nD) (r : Fin 7) (j : Fin 8) (sc inv : F .f32) : PP F PUnit := do
  Prog.lift (.waitDma2 (recvS j) (qC j) (rC j) ((Memref.isWhole_whole _).wordExact_slice rfl _ (words_chunk j)) ((Memref.isWhole_whole _).wordExact_slice rfl _ (words_chunk j)))
  let q : Vec F S1x512x1024 .bf16 ← Prog.lift (.load rM (chunkR j).toLoadRect (View.loadsAt_vmem h_S1x512x1024))
  let _o : Vec F S512x1024 .f32 ← Prog.lift (.load oM (farR c r).toLoadRect (View.loadsAt_vmem h_S512x1024))
  Prog.lift (.store oM (farR c r) (k0_pay60 sc inv q) Finset.univ (View.stores_vmem_bits_univ h_S512x1024 rfl) (.inl rfl))

/-- The block of the result that arrives on channel `r`, as a narrow chunk. -/
def farOut4 (c : Dev nD) (r : Fin 7) (e : Fin 2) (j : Fin 8) (sc : F .f32) : PP F PUnit := do
  Prog.lift (.waitDma2 (recvS j) (q4C e) (r4C e) ((Memref.isWhole_whole _).wordExact_slice rfl _ (words_chunk4 e)) ((Memref.isWhole_whole _).wordExact_slice rfl _ (words_chunk4 e)))
  let q : Vec F S1x512x1024 .fp8e4m3 ← Prog.lift (.load r4M (chunk4R e).toLoadRect (View.loadsAt_vmem h_S1x512x1024))
  let _o : Vec F S512x1024 .f32 ← Prog.lift (.load oM (farR c r).toLoadRect (View.loadsAt_vmem h_S512x1024))
  Prog.lift (.store oM (farR c r) (k0_pay66 sc q) Finset.univ (View.stores_vmem_bits_univ h_S512x1024 rfl) (.inl rfl))

/-- Wait for the outgoing chunk `j` to have left. -/
def leftQ (j : Fin 8) : PP F PUnit :=
  Prog.lift (.waitDma2 (sendS j) (rC j) (qC j) ((Memref.isWhole_whole _).wordExact_slice rfl _ (words_chunk j)) ((Memref.isWhole_whole _).wordExact_slice rfl _ (words_chunk j)))
/-- Wait for the outgoing narrow chunk `e` to have left. -/
def leftQ4 (e : Fin 2) (j : Fin 8) : PP F PUnit :=
  Prog.lift (.waitDma2 (sendS j) (r4C e) (q4C e) ((Memref.isWhole_whole _).wordExact_slice rfl _ (words_chunk4 e)) ((Memref.isWhole_whole _).wordExact_slice rfl _ (words_chunk4 e)))
/-- Wait for the row of maxima sent to the `k`-th device on to have left. -/
def leftA (k : Fin 8) : PP F PUnit :=
  Prog.lift (.waitDma2 (asendS k) (aRow k) tM (View.wordExact_bits rfl) (Memref.isWhole_whole _).wordExact)

/-! ## The sequence -/

/-- One chunk's round: start its second tile, multiply by its first, start the next chunk's first tile,
    multiply by its second. -/
def round (c : Dev nD) (j j' : Fin 8) (a : F .f32) : PP F (F .f32) := do
  startW c j 1
  let a ← gemm c j 0 a
  startW c j' 0
  gemm c j 1 a

/-- The last chunk's round: no tile follows. -/
def roundLast (c : Dev nD) (a : F .f32) : PP F (F .f32) := do
  startW c 7 1
  let a ← gemm c 7 0 a
  gemm c 7 1 a

/-- The products: eight rounds, the first five chunks sent as they are done. -/
def products (c : Dev nD) : PP F (F .f32) := do
  startW c 0 0
  let a ← round c 0 1 am0
  sendQ 0 ⟨k0_dev9 c, k0_dev9_lt c⟩
  let a ← round c 1 2 a
  sendQ 1 ⟨k0_dev10 c, k0_dev10_lt c⟩
  let a ← round c 2 3 a
  sendQ 2 ⟨k0_dev11 c, k0_dev11_lt c⟩
  let a ← round c 3 4 a
  sendQ 3 ⟨k0_dev12 c, k0_dev12_lt c⟩
  let a ← round c 4 5 a
  sendQ 4 ⟨k0_dev13 c, k0_dev13_lt c⟩
  let a ← round c 5 6 a
  let a ← round c 6 7 a
  roundLast c a

/-- The exchange of the maxima. -/
def exchange (c : Dev nD) (a : F .f32) : PP F (Vec F S8x128 .f32) := do
  putMax a
  sendA 1 ⟨k0_dev14 c, k0_dev14_lt c⟩
  sendA 2 ⟨k0_dev15 c, k0_dev15_lt c⟩
  sendA 3 ⟨k0_dev16 c, k0_dev16_lt c⟩
  sendA 4 ⟨k0_dev17 c, k0_dev17_lt c⟩
  sendA 5 ⟨k0_dev18 c, k0_dev18_lt c⟩
  sendA 6 ⟨k0_dev19 c, k0_dev19_lt c⟩
  sendA 7 ⟨k0_dev20 c, k0_dev20_lt c⟩
  waitA 1; waitA 2; waitA 3; waitA 4; waitA 5; waitA 6; waitA 7
  readMax

/-- The narrow chunks leave. -/
def narrow (c : Dev nD) (inv : F .f32) : PP F PUnit := do
  quant 5 0 inv
  sendQ4 0 5 ⟨k0_dev21 c, k0_dev21_lt c⟩
  quant 6 1 inv
  sendQ4 1 6 ⟨k0_dev22 c, k0_dev22_lt c⟩

/-- The result is collected. -/
def collect (c : Dev nD) (sc inv : F .f32) : PP F PUnit := do
  ownOut c sc inv
  farOut c 0 0 sc inv
  farOut c 1 1 sc inv
  farOut c 2 2 sc inv
  farOut c 3 3 sc inv
  farOut c 4 4 sc inv
  farOut4 c 5 0 5 sc
  farOut4 c 6 1 6 sc

/-- Everything sent has left. -/
def drain : PP F PUnit := do
  leftQ 0; leftQ 1; leftQ 2; leftQ 3; leftQ 4
  leftQ4 0 5; leftQ4 1 6
  leftA 1; leftA 2; leftA 3; leftA 4; leftA 5; leftA 6; leftA 7

/-- All of the body after the opening handshake. -/
def rest (c : Dev nD) : PP F PUnit := do
  let a ← products c
  let g ← exchange c a
  narrow c (k0_pay57 g)
  collect c (k0_pay56 g) (k0_pay57 g)
  drain

/-- The opening handshake, as printed. -/
abbrev opening : PP F (Σ' (d0 : Dev nD) (v2 : BitVec 32), BitVec 32) :=
  k0_part1 xM (Memref.isWhole_whole _) wM (Memref.isWhole_whole _) oM (Memref.isWhole_whole _) qM (Memref.isWhole_whole _) bM (Memref.isWhole_whole _) rM (Memref.isWhole_whole _) q4M (Memref.isWhole_whole _) r4M (Memref.isWhole_whole _) tM (Memref.isWhole_whole _) aM (Memref.isWhole_whole _) cc0_scratch7 cc0_scratch8 cc0_scratch9 cc0_scratch10 cc0_scratch11

set_option maxRecDepth 1000000 in
/-- The printed body is the handshake and then the sequence above. -/
theorem body_eq : cc0_body (F := F) xM (Memref.isWhole_whole _) wM (Memref.isWhole_whole _) oM (Memref.isWhole_whole _) qM (Memref.isWhole_whole _) bM (Memref.isWhole_whole _) rM (Memref.isWhole_whole _) q4M (Memref.isWhole_whole _) r4M (Memref.isWhole_whole _) tM (Memref.isWhole_whole _) aM (Memref.isWhole_whole _) cc0_scratch7 cc0_scratch8 cc0_scratch9 cc0_scratch10 cc0_scratch11
    = opening >>= fun p => rest p.1 := by
  rw [cc0_body_eq_skeleton]
  unfold cc0_body_skel
  refine congrArg (fun k => opening >>= k) (funext fun p => ?_)
  obtain ⟨d0, v2, v28⟩ := p
  rfl

end Cert.QMM

end
-- ==== Proof.Contents.lean ====
/-
What the buffers hold, piece by piece. A piece is a slice of a buffer; its contents are named by the
function that is read through it, and the contents of a whole are its pieces' contents glued.
-/
module

public import proofs.«01_k».proof.Proof.Prog
public import Idealize.ShloMosaic.Lib.Pipeline.Launch
public import Idealize.ShloMosaic.Lib.Pipeline.Kit
public import Idealize.ShloMosaic.Lib.MemrefSat
public import Idealize.ShloMosaic.Lib.Transfers
public import Idealize.ShloMosaic.Lib.Tactic

@[expose] public section

noncomputable section

namespace Cert.QMM

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds, the protocol's rounds (a duty is named by the device that
pays it), and the counters of the local copies -/

abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
def EB : Emb UB (MT nD τ sig Unit (Elt F) ℕ UU ℕ) :=
  ((Emb.inl : Emb UB (UB × Counters)).trans (Emb.inr : Emb (UB × Counters) UU)).trans (uEmb (nD := nD) (τ := τ) (sig := sig) (Ix := Unit) (Val := Elt F) (Name := ℕ) (U := UU) (Lvl := ℕ)).toEmb
instance EB_lands : (EB (F := F)).LandsIn (upEmb : UEmb _ (MT nD τ sig Unit (Elt F) ℕ UU ℕ)) := by unfold EB; infer_instance
def EC : UEmb Counters (MT nD τ sig Unit (Elt F) ℕ UU ℕ) :=
  ((UEmb.inr : UEmb Counters (UB × Counters)).trans (UEmb.inr : UEmb (UB × Counters) UU)).trans (uEmb (nD := nD) (τ := τ) (sig := sig) (Ix := Unit) (Val := Elt F) (Name := ℕ) (U := UU) (Lvl := ℕ))
instance EC_lands : (EC (F := F)).LandsIn (upEmb : UEmb _ (MT nD τ sig Unit (Elt F) ℕ UU ℕ)) := by unfold EC; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring of devices -/

set_option backward.proofsInPublic true in
/-- The device `n` places on. -/
def fwd (c : Dev nD) (n : Fin 8) : Dev nD := ⟨(c.val + n.val) % 8, Nat.mod_lt _ (by decide)⟩
set_option backward.proofsInPublic true in
/-- The device `n` places back. -/
def back (c : Dev nD) (n : Fin 8) : Dev nD := ⟨(c.val + 8 - n.val) % 8, Nat.mod_lt _ (by decide)⟩

/-- As many places back as on is nowhere, -/
theorem back_fwd (c : Dev nD) (n : Fin 8) : back (fwd c n) n = c := by revert c n; decide
/-- and the other way around. -/
theorem fwd_back (c : Dev nD) (n : Fin 8) : fwd (back c n) n = c := by revert c n; decide

/-! ## The boxes cover their buffers and are disjoint -/

/-- The halves of a chunk lie in it, -/
theorem inb_part (h : Fin 2) : ∀ a, (![0, 0, 512 * h.val] : Fin 3 → Nat) a + S1x512x512.size a ≤ S1x512x1024.size a := by
  revert h; decide
/-- Half `h` of a chunk, within the chunk. -/
abbrev partR (h : Fin 2) : Rect S1x512x1024 := Rect.unit (s := S1x512x1024) ![0, 0, 512 * h.val] S1x512x512.size (inb_part h)

/-- and a chunk's rows in the result. -/
theorem inb_rows (c : Dev nD) (r : Fin 8) : ∀ a, (![512 * (back c (r + 1)).val, 0] : Fin 2 → Nat) a + S512x1024.size a ≤ S4096x1024.size a := by
  revert c r; decide
/-- The rows of the result that chunk `r` fills: the sender's rows. -/
abbrev rowsR (c : Dev nD) (r : Fin 8) : Rect S4096x1024 :=
  Rect.unit (s := S4096x1024) ![512 * (back c (r + 1)).val, 0] S512x1024.size (inb_rows c r)

/-- Two unit boxes with different ranges on some axis are disjoint. -/
theorem disjoint_unit {s : Shape} {o o' z z' : Fin s.rank → Nat} {i i'} (a : Fin s.rank)
    (h : o a + z a ≤ o' a ∨ o' a + z' a ≤ o a) : Disjoint (Rect.unit (s := s) o z i).set (Rect.unit (s := s) o' z' i').set := by
  refine Finset.disjoint_left.mpr fun x hx hx' => ?_
  have h1 := Rect.mem_set_unit.mp hx a
  have h2 := Rect.mem_set_unit.mp hx' a
  omega

/-- The halves of a chunk are apart -/
theorem parts_disj (t t' : Fin 2) (h : t ≠ t') : Disjoint (partR t).set (partR t').set := by
  refine disjoint_unit (2 : Fin 3) ?_
  revert t t'; decide
/-- and make it up. -/
theorem parts_cov : (Finset.univ : Finset (Fin 2)).biUnion (fun t => (partR t).set) = Finset.univ := by
  refine Finset.eq_univ_iff_forall.mpr fun x => Finset.mem_biUnion.mpr ?_
  have h0 : (x 0).val < 1 := (x 0).isLt
  have h1 : (x 1).val < 512 := (x 1).isLt
  have h2 : (x 2).val < 1024 := (x 2).isLt
  refine ⟨⟨(x 2).val / 512, by omega⟩, Finset.mem_univ _, Rect.mem_set_unit.mpr fun a => ?_⟩
  match a with
  | ⟨0, _⟩ => exact ⟨Nat.zero_le _, by show (x 0).val < 0 + 1; omega⟩
  | ⟨1, _⟩ => exact ⟨Nat.zero_le _, by show (x 1).val < 0 + 512; omega⟩
  | ⟨2, _⟩ => exact ⟨by show 512 * ((x 2).val / 512) ≤ (x 2).val; omega, by show (x 2).val < 512 * ((x 2).val / 512) + 512; omega⟩

/-- The wide chunks are apart -/
theorem chunks_disj (t t' : Fin 8) (h : t ≠ t') : Disjoint (chunkR t).set (chunkR t').set := by
  refine disjoint_unit (0 : Fin 3) ?_
  revert t t'; decide
/-- and make up their buffer. -/
theorem chunks_cov : (Finset.univ : Finset (Fin 8)).biUnion (fun t => (chunkR t).set) = Finset.univ := by
  refine Finset.eq_univ_iff_forall.mpr fun x => Finset.mem_biUnion.mpr ?_
  have h1 : (x 1).val < 512 := (x 1).isLt
  have h2 : (x 2).val < 1024 := (x 2).isLt
  refine ⟨x 0, Finset.mem_univ _, Rect.mem_set_unit.mpr fun a => ?_⟩
  match a with
  | ⟨0, _⟩ => exact ⟨le_refl (x 0).val, Nat.lt_succ_self (x 0).val⟩
  | ⟨1, _⟩ => exact ⟨Nat.zero_le _, by show (x 1).val < 0 + 512; omega⟩
  | ⟨2, _⟩ => exact ⟨Nat.zero_le _, by show (x 2).val < 0 + 1024; omega⟩

/-- The narrow chunks are apart -/
theorem chunks4_disj (t t' : Fin 2) (h : t ≠ t') : Disjoint (chunk4R t).set (chunk4R t').set := by
  refine disjoint_unit (0 : Fin 3) ?_
  revert t t'; decide
/-- and make up theirs. -/
theorem chunks4_cov : (Finset.univ : Finset (Fin 2)).biUnion (fun t => (chunk4R t).set) = Finset.univ := by
  refine Finset.eq_univ_iff_forall.mpr fun x => Finset.mem_biUnion.mpr ?_
  have h1 : (x 1).val < 512 := (x 1).isLt
  have h2 : (x 2).val < 1024 := (x 2).isLt
  refine ⟨x 0, Finset.mem_univ _, Rect.mem_set_unit.mpr fun a => ?_⟩
  match a with
  | ⟨0, _⟩ => exact ⟨le_refl (x 0).val, Nat.lt_succ_self (x 0).val⟩
  | ⟨1, _⟩ => exact ⟨Nat.zero_le _, by show (x 1).val < 0 + 512; omega⟩
  | ⟨2, _⟩ => exact ⟨Nat.zero_le _, by show (x 2).val < 0 + 1024; omega⟩

/-- The two tile slots are apart -/
theorem slots_disj (t t' : Fin 2) (h : t ≠ t') : Disjoint (slotR t).set (slotR t').set := by
  refine disjoint_unit (0 : Fin 3) ?_
  revert t t'; decide
/-- and make up the weight buffer. -/
theorem slots_cov : (Finset.univ : Finset (Fin 2)).biUnion (fun t => (slotR t).set) = Finset.univ := by
  refine Finset.eq_univ_iff_forall.mpr fun x => Finset.mem_biUnion.mpr ?_
  have h1 : (x 1).val < 4096 := (x 1).isLt
  have h2 : (x 2).val < 512 := (x 2).isLt
  refine ⟨x 0, Finset.mem_univ _, Rect.mem_set_unit.mpr fun a => ?_⟩
  match a with
  | ⟨0, _⟩ => exact ⟨le_refl (x 0).val, Nat.lt_succ_self (x 0).val⟩
  | ⟨1, _⟩ => exact ⟨Nat.zero_le _, by show (x 1).val < 0 + 4096; omega⟩
  | ⟨2, _⟩ => exact ⟨Nat.zero_le _, by show (x 2).val < 0 + 512; omega⟩

/-- The rows of maxima are apart -/
theorem rows_disj (t t' : Fin 8) (h : t ≠ t') : Disjoint (rowR t).set (rowR t').set := by
  refine disjoint_unit (0 : Fin 2) ?_
  revert t t'; decide
/-- and make up their buffer. -/
theorem rows_cov : (Finset.univ : Finset (Fin 8)).biUnion (fun t => (rowR t).set) = Finset.univ := by
  refine Finset.eq_univ_iff_forall.mpr fun x => Finset.mem_biUnion.mpr ?_
  have h1 : (x 1).val < 128 := (x 1).isLt
  refine ⟨x 0, Finset.mem_univ _, Rect.mem_set_unit.mpr fun a => ?_⟩
  match a with
  | ⟨0, _⟩ => exact ⟨le_refl (x 0).val, Nat.lt_succ_self (x 0).val⟩
  | ⟨1, _⟩ => exact ⟨Nat.zero_le _, by show (x 1).val < 0 + 128; omega⟩

/-- The chunks' rows of the result are apart -/
theorem out_disj (c : Dev nD) (t t' : Fin 8) (h : t ≠ t') : Disjoint (rowsR c t).set (rowsR c t').set := by
  refine disjoint_unit (0 : Fin 2) ?_
  revert c t t'; decide +kernel
/-- The chunk that fills row block `s` of device `c`'s result. -/
theorem exists_chunk (c : Dev nD) (s : Fin 8) : ∃ r : Fin 8, (back c (r + 1)).val = s.val := by
  revert c s; decide +kernel
/-- and make it up. -/
theorem out_cov (c : Dev nD) : (Finset.univ : Finset (Fin 8)).biUnion (fun t => (rowsR c t).set) = Finset.univ := by
  refine Finset.eq_univ_iff_forall.mpr fun x => Finset.mem_biUnion.mpr ?_
  have h0 : (x 0).val < 4096 := (x 0).isLt
  have h1 : (x 1).val < 1024 := (x 1).isLt
  obtain ⟨r, hr⟩ := exists_chunk c ⟨(x 0).val / 512, by omega⟩
  refine ⟨r, Finset.mem_univ _, Rect.mem_set_unit.mpr fun a => ?_⟩
  match a with
  | ⟨0, _⟩ => exact ⟨by show 512 * (back c (r + 1)).val ≤ (x 0).val; rw [hr]; show 512 * ((x 0).val / 512) ≤ _; omega,
      by show (x 0).val < 512 * (back c (r + 1)).val + 512; rw [hr]; show _ < 512 * ((x 0).val / 512) + 512; omega⟩
  | ⟨1, _⟩ => exact ⟨Nat.zero_le _, by show (x 1).val < 0 + 1024; omega⟩

/-- The printed rows of the device's own block are those of chunk 7, -/
theorem ownR_eq (c : Dev nD) : ownR c = rowsR c 7 := by
  have h : k0_off2 c = ![512 * (back c (7 + 1)).val, 0] := by revert c; decide +kernel
  unfold ownR rowsR; congr 1
/-- and those of what arrives on channel `r` are chunk `r`'s. -/
theorem farR_eq (c : Dev nD) (r : Fin 7) : farR c r = rowsR c r.castSucc := by
  have h : k0_off3 c (BitVec.ofNat 32 r.val) = ![512 * (back c (r.castSucc + 1)).val, 0] := by revert c r; decide +kernel
  unfold farR rowsR; congr 1

/-! ## Contents -/

/-- The device's block of `x`. -/
def xv (c : Dev nD) : (cc0_stg0_0 : Ref sig .tc).ty.Contents (Elt F) :=
  (win0_0.blk (0 : Fin 1)).view.read (Elt F) ((s₀ m ρ).mem ((c : Thread nD τ).loc main_arg0))
/-- Its copy of `w`. -/
def wv (c : Dev nD) : Buf (Elt F) ((c : Thread nD τ).loc main_arg1) := m ((c : Thread nD τ).loc main_arg1)
/-- The weight tile of chunk `j`, half `h`, -/
def wT (c : Dev nD) (j : Fin 8) (h : Fin 2) : Vec F S4096x512 .f32 := (tileM c j h).view.read (Elt F) (wv m c)
/-- as it is loaded from its slot. -/
def wL (c : Dev nD) (j : Fin 8) (h : Fin 2) : Vec F S1x4096x512 .f32 :=
  fun i => wT m c j h ((Shape.reshapeEquiv squeezes_S1x4096x512_S4096x512.numel_eq).symm i)
/-- The product tile. -/
def qv (c : Dev nD) (j : Fin 8) (h : Fin 2) : Vec F S1x512x512 .bf16 := tileV (xv m ρ c) (wL m c j h)
/-- The chunk of products for the device `j + 1` places on. -/
def chunkV (c : Dev nD) (j : Fin 8) : Vec F S1x512x1024 .bf16 := Rect.glue (β := F .bf16) partR parts_cov fun h => qv m ρ c j h
/-- The running maximum after `n` tiles. -/
def amN (c : Dev nD) : ℕ → F .f32
  | 0 => am0
  | n + 1 => amV (amN c n) (xv m ρ c) (wL m c ⟨n / 2 % 8, Nat.mod_lt _ (by decide)⟩ ⟨n % 2, Nat.mod_lt _ (by decide)⟩)
/-- The row of maxima the device sends. -/
def tx (c : Dev nD) : Vec F S1x128 .f32 := txV (amN m ρ c 16)
/-- The maxima the device receives, row `k` from the device `k` places back. -/
def am (c : Dev nD) : Vec F S8x128 .f32 := Rect.glue (β := F .f32) rowR rows_cov fun k => tx m ρ (back c k)
def sc (c : Dev nD) : F .f32 := k0_pay56 (am m ρ c)
def inv (c : Dev nD) : F .f32 := k0_pay57 (am m ρ c)
/-- The narrow chunk `e`: the chunk `5 + e`, quantised. -/
def q4V (c : Dev nD) (e : Fin 2) : Vec F S1x512x1024 .fp8e4m3 := k0_pay58 (inv m ρ c) (chunkV m ρ c (Fin.natAdd 5 e).castSucc)
/-- What chunk `r` fills into the result. -/
def blockV (c : Dev nD) (r : Fin 8) : Vec F S512x1024 .f32 :=
  if r = 5 then k0_pay66 (sc m ρ c) (q4V m ρ (back c (r + 1)) 0)
  else if r = 6 then k0_pay66 (sc m ρ c) (q4V m ρ (back c (r + 1)) 1)
  else k0_pay60 (sc m ρ c) (inv m ρ c) (chunkV m ρ (back c (r + 1)) r)
/-- The device's result. -/
def out (c : Dev nD) : (cc0_stg1_0 : Ref sig .tc).ty.Contents (Elt F) :=
  Rect.glue (β := F .f32) (s := S4096x1024) (rowsR c) (out_cov c) (blockV m ρ c)

end Cert.QMM

end
-- ==== Proof.Sched.lean ====
/-
The protocol. Every device `c` talks to every other. Cells of device `c`:

* the barrier: each other device `d` signals it once, and with the signal hands over the places on `d` that
  `c` will copy into — `d`'s landing chunk for `c` and `d`'s row of maxima for `c`; `c` waits for all seven;
* `recv j` (`j < 7`): the device `j + 1` places back copies its chunk `j` here (for `j = 5, 6` its quantised
  chunk); `c` waits, and has the chunk at the sender's contents;
* `send j`: the same copy, at the sender: the source chunk comes back;
* `arecv k` (`0 < k`): the device `k` places back copies its row of maxima into row `k`;
* `asend k`: the same copy, at the sender: its share of the row comes back.

Each cell has one round. Devices wait at the barrier (level 1) owing copies only, for the maxima (level 2)
owing quantised chunks only, and for chunks (level 3) owing nothing.
-/
module

public import proofs.«01_k».proof.Proof.Contents

@[expose] public section

noncomputable section

namespace Cert.QMM

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells -/

/-- The four families of copy semaphores. -/
inductive Ch where
  | recv | send | arecv | asend
deriving DecidableEq

instance : Fintype Ch := ⟨{.recv, .send, .arecv, .asend}, fun x => by cases x <;> decide⟩

/-- A cell of a device: the barrier (`none`), or one of a family. -/
abbrev Kd : Type := Option (Ch × Fin 8)

abbrev barS : Sem sig := (SemArray.scalar (sig.barrier 0 rfl) : Sems sig S_).sem

/-- The semaphore of a family's member. -/
abbrev chsem : Ch × Fin 8 → SemLoc sig
  | (.recv, j) => .dma (recvS j)
  | (.send, j) => .dma (sendS j)
  | (.arecv, k) => .dma (arecvS k)
  | (.asend, k) => .dma (asendS k)
/-- The semaphore of a cell. -/
abbrev csem : Kd → SemLoc sig
  | none => .reg barS
  | some p => chsem p
abbrev kcell (e : Dev nD × Kd) : GSem nD τ sig := ((e.1 : Thread nD τ), csem e.2)

/-- The counters are distinct on a device, -/
theorem csem_inj : Function.Injective csem := by decide +kernel
/-- and over all devices. -/
theorem kcell_inj : Function.Injective kcell := fun a b h => by
  have h1 : a.1 = b.1 := congrArg (fun g : GSem nD τ sig => g.1.1) h
  exact Prod.ext h1 (csem_inj (congrArg Prod.snd h))

/-- The cell a semaphore is, if it is one. -/
def kindOf (s : SemLoc sig) : Option Kd := (Finset.univ.toList : List Kd).find? fun κ => csem κ = s
/-- A counter's kind is read off it, -/
theorem kindOf_csem (κ : Kd) : kindOf (csem κ) = some κ := by
  unfold kindOf
  cases h : (Finset.univ.toList : List Kd).find? fun κ' => csem κ' = csem κ with
  | none =>
    have := List.find?_eq_none.mp h κ (Finset.mem_toList.mpr (Finset.mem_univ _))
    simp at this
  | some κ' =>
    have := List.find?_some h
    exact congrArg some (csem_inj (of_decide_eq_true this))
/-- and other counters have none. -/
theorem kindOf_none {s : SemLoc sig} (h : ∀ κ, csem κ ≠ s) : kindOf s = none := by
  unfold kindOf
  exact List.find?_eq_none.mpr fun κ _ hk => h κ (of_decide_eq_true hk)

/-! ## Places, amounts, payloads -/

/-- How many places `d` is on from `p`. -/
def gap (p d : Dev nD) : Fin 8 := ⟨(d.val + 8 - p.val) % 8, Nat.mod_lt _ (by decide)⟩
/-- `k` places on is a gap of `k`, -/
theorem gap_fwd (p : Dev nD) (k : Fin 8) : gap p (fwd p k) = k := by revert p k; decide
/-- the gap on leads to the device; -/
theorem fwd_gap (p d : Dev nD) : fwd p (gap p d) = d := by revert p d; decide
/-- so it is going back, -/
theorem gap_back (c : Dev nD) (k : Fin 8) : gap (back c k) c = k := by revert c k; decide
/-- both ways. -/
theorem back_gap (c t : Dev nD) : back c (gap t c) = t := by revert c t; decide

/-- Device `c` owns the memref, at contents of which nothing is said. -/
abbrev has (c : Dev nD) {sp : Space} {sh : Shape} {e : EltTy} (M : Memref sig .tc sp sh e) : sProp 𝕄 :=
  ownsSat (c : Thread nD τ) M fullShare (fun _ => True)
/-- Device `c` owns the memref, and reads `X` in it. -/
abbrev holds (c : Dev nD) {sp : Space} {sh : Shape} {e : EltTy} (M : Memref sig .tc sp sh e) (X : sh.Idx → Elt F e) : sProp 𝕄 :=
  owns (c : Thread nD τ) M fullShare X

/-- A buffer that holds known contents holds some. -/
theorem has_of_holds (c : Dev nD) {sp : Space} {sh : Shape} {e : EltTy} (M : Memref sig .tc sp sh e) (X : sh.Idx → Elt F e) :
    holds c M X ⊢ (has c M : sProp 𝕄) := ownsSat_intro (Φ := fun _ => True) (c : Thread nD τ) M fullShare trivial

/-- Device `c`'s place for the chunk `j` it receives. -/
def land (c : Dev nD) (j : Fin 8) : sProp 𝕄 :=
  if j = 5 then has c (r4C 0) else if j = 6 then has c (r4C 1) else has c (rC j)
/-- The chunk `j` received on device `c`. -/
def landed (c : Dev nD) (j : Fin 8) : sProp 𝕄 :=
  if j = 5 then holds c (r4C 0) (q4V m ρ (back c (j + 1)) 0) else if j = 6 then holds c (r4C 1) (q4V m ρ (back c (j + 1)) 1)
  else holds c (rC j) (chunkV m ρ (back c (j + 1)) j)
/-- The chunk `j` device `c` sends. -/
def source (c : Dev nD) (j : Fin 8) : sProp 𝕄 :=
  if j = 5 then holds c (q4C 0) (q4V m ρ c 0) else if j = 6 then holds c (q4C 1) (q4V m ρ c 1)
  else holds c (qC j) (chunkV m ρ c j)
/-- The share of its row of maxima that device `c` lends to the copy into row `k`. -/
def txShare (c : Dev nD) (k : Fin 8) : sProp 𝕄 :=
  owns (c : Thread nD τ) tM (Transfers.shareTok fullShare 8 k) (tx m ρ c)

/-- The credit of a wide chunk, of a narrow one, of a row of maxima. -/
def NQ : ℕ := (rC 0).view.dmaCredit
def N4 : ℕ := (r4C 0).view.dmaCredit
def NA : ℕ := (aRow 0).view.dmaCredit
/-- The copies have bytes: a wide chunk, -/
theorem NQ_pos : 0 < NQ := View.dmaCredit_pos _ (by decide)
/-- a narrow one, -/
theorem N4_pos : 0 < N4 := View.dmaCredit_pos _ (by decide)
/-- a row of maxima. -/
theorem NA_pos : 0 < NA := View.dmaCredit_pos _ (by decide)

/-- The units one duty of a cell contributes. -/
def wt : Kd → ℕ
  | none => 1
  | some (.recv, j) => if j = 5 ∨ j = 6 then N4 else NQ
  | some (.send, j) => if j = 5 ∨ j = 6 then N4 else NQ
  | some (.arecv, _) => NA
  | some (.asend, _) => NA
/-- Every payment is of at least one. -/
theorem wt_pos (κ : Kd) : 0 < wt κ := by
  match κ with
  | none => exact Nat.one_pos
  | some (.recv, j) => show 0 < (if j = 5 ∨ j = 6 then N4 else NQ); split; exacts [N4_pos, NQ_pos]
  | some (.send, j) => show 0 < (if j = 5 ∨ j = 6 then N4 else NQ); split; exacts [N4_pos, NQ_pos]
  | some (.arecv, _) => exact NA_pos
  | some (.asend, _) => exact NA_pos

/-- The devices that pay a cell of `p`. -/
def payers (p : Dev nD) : Kd → Finset (Dev nD)
  | none => Finset.univ.erase p
  | some (.recv, j) => if j = 7 then ∅ else {back p (j + 1)}
  | some (.send, j) => if j = 7 then ∅ else {p}
  | some (.arecv, k) => if k = 0 then ∅ else {back p k}
  | some (.asend, k) => if k = 0 then ∅ else {p}

/-- What device `d` hands over at a cell of `p`. -/
def pay (p d : Dev nD) : Kd → sProp 𝕄
  | none => iprop(land d (gap p d - 1) ∗ has d (aRow (gap p d)))
  | some (.recv, j) => landed m ρ p j
  | some (.send, j) => source m ρ p j
  | some (.arecv, k) => holds p (aRow k) (tx m ρ (back p k))
  | some (.asend, k) => txShare m ρ p k

omit [FloatOps F] in
instance land_storable (c : Dev nD) (j : Fin 8) : BI.Storable (upEmb : UEmb _ 𝕄) (land (F := F) c j) := by
  unfold land; (repeat' split) <;> infer_instance
instance landed_storable (c : Dev nD) (j : Fin 8) : BI.Storable (upEmb : UEmb _ 𝕄) (landed (F := F) m ρ c j) := by
  unfold landed; (repeat' split) <;> infer_instance
instance source_storable (c : Dev nD) (j : Fin 8) : BI.Storable (upEmb : UEmb _ 𝕄) (source (F := F) m ρ c j) := by
  unfold source; (repeat' split) <;> infer_instance
instance txShare_storable (c : Dev nD) (k : Fin 8) : BI.Storable (upEmb : UEmb _ 𝕄) (txShare (F := F) m ρ c k) := by
  unfold txShare; infer_instance
instance pay_storable (p d : Dev nD) (κ : Kd) : BI.Storable (upEmb : UEmb _ 𝕄) (pay (F := F) m ρ p d κ) := by
  match κ with
  | none => unfold pay; infer_instance
  | some (.recv, j) => unfold pay; infer_instance
  | some (.send, j) => unfold pay; infer_instance
  | some (.arecv, k) => unfold pay; infer_instance
  | some (.asend, k) => unfold pay; infer_instance

/-! ## The schedule -/

/-- One round per cell. -/
def rd : Rounds.Schedule (GSem nD τ sig) (Dev nD) 𝕄 where
  duties g r := if r = 0 then ((kindOf g.2).map (payers g.1.1)).getD ∅ else ∅
  unitless _ := False
  amount g _ _ := ((kindOf g.2).map wt).getD 1
  payload g _ d := ((kindOf g.2).map (pay m ρ g.1.1 d)).getD iprop(emp)
  amount_pos g _ _ _ := by
    cases kindOf g.2 with
    | none => exact Nat.one_pos
    | some κ => exact wt_pos κ

instance rd_storable (g : GSem nD τ sig) (r : ℕ) (d : Dev nD) :
    BI.Storable (upEmb : UEmb _ 𝕄) ((rd (F := F) m ρ).payload g r d) := by
  show BI.Storable upEmb (((kindOf g.2).map (pay m ρ g.1.1 d)).getD iprop(emp))
  cases kindOf g.2 with
  | none => exact (inferInstance : BI.Storable (upEmb : UEmb _ 𝕄) iprop(emp))
  | some κ => exact pay_storable m ρ g.1.1 d κ

/-- In the one round a counter is paid by its payers, -/
theorem duties_eq (p : Dev nD) (κ : Kd) : (rd (F := F) m ρ).duties (kcell (p, κ)) 0 = payers p κ := by
  dsimp only [rd]; rw [if_pos rfl, kindOf_csem]; rfl
/-- and by nobody later, -/
theorem duties_later (g : GSem nD τ sig) : ∀ r, 1 ≤ r → (rd (F := F) m ρ).duties g r = ∅ :=
  fun r hr => by dsimp only [rd]; rw [if_neg (by omega)]
/-- each paying its weight -/
theorem amount_eq (p : Dev nD) (κ : Kd) (d : Dev nD) : (rd (F := F) m ρ).amount (kcell (p, κ)) 0 d = wt κ := by
  dsimp only [rd]; rw [kindOf_csem]; rfl
/-- and handing over what the counter is for; -/
theorem payload_eq (p : Dev nD) (κ : Kd) (d : Dev nD) : (rd (F := F) m ρ).payload (kcell (p, κ)) 0 d = pay m ρ p d κ := by
  dsimp only [rd]; rw [kindOf_csem]; rfl
/-- all of it together is what is waited for, -/
theorem expect_eq (p : Dev nD) (κ : Kd) : (rd (F := F) m ρ).expect (kcell (p, κ)) 0 = (payers p κ).card * wt κ := by
  unfold Schedule.expect Schedule.amountOf
  rw [duties_eq, Finset.sum_congr rfl fun d _ => amount_eq m ρ p κ d, Finset.sum_const, smul_eq_mul]
/-- and what is handed over with it. -/
theorem rest_eq (p : Dev nD) (κ : Kd) :
    bigSep ((rd (F := F) m ρ).duties (kcell (p, κ)) 0 \ ∅) (fun d => (rd (F := F) m ρ).payload (kcell (p, κ)) 0 d)
      = bigSep (payers p κ) fun d => pay m ρ p d κ := by
  rw [Finset.sdiff_empty, duties_eq]; exact bigSep_congr fun d _ => payload_eq m ρ p κ d

/-! ## Dues -/

/-- What a list of payments owes: the weight of each cell in it. -/
def owed : List (Dev nD × Kd) → CellTallies nD τ sig Unit
  | [] => 0
  | e :: l => owed l + tallyAt (kcell e) () (wt e.2)

/-- What a list of payments owes a counter: its weight, as often as it is listed. -/
theorem owed_count (l : List (Dev nD × Kd)) (e : Dev nD × Kd) : owed l (kcell e) () = l.count e * wt e.2 := by
  induction l with
  | nil => simp [owed]
  | cons a l ih =>
    unfold owed
    rw [Pi.add_apply, Finsupp.add_apply, ih, tallyAt_apply, List.count_cons]
    by_cases h : a = e
    · subst h; simp [Nat.add_mul]
    · rw [if_neg (fun h' => h (kcell_inj h'.1.symm))]; simp [h]
/-- What is owed is owed to a listed counter. -/
theorem owed_pos {l : List (Dev nD × Kd)} {g : GSem nD τ sig} {u : Unit} (h : 0 < owed l g u) : ∃ e ∈ l, g = kcell e := by
  induction l with
  | nil => exact absurd h (by simp [owed])
  | cons a l ih =>
    unfold owed at h
    rw [Pi.add_apply, Finsupp.add_apply, tallyAt_apply] at h
    by_cases hg : g = kcell a ∧ u = ()
    · exact ⟨a, List.mem_cons_self, hg.1⟩
    · rw [if_neg hg] at h
      obtain ⟨e, he, hge⟩ := ih h
      exact ⟨e, List.mem_cons_of_mem _ he, hge⟩

/-- The signals a device gives in the opening, to the devices of a list but itself. -/
def sigs (c : Dev nD) (l : List (Dev nD)) : List (Dev nD × Kd) := (l.filter fun t => c ≠ t).map fun t => (t, none)
/-- The quantised chunks it sends, -/
def duesN (c : Dev nD) : List (Dev nD × Kd) := [(fwd c 6, some (.recv, 5)), (fwd c 7, some (.recv, 6))]
/-- the rows of maxima before them, -/
def duesA (c : Dev nD) : List (Dev nD × Kd) :=
  (fwd c 1, some (.arecv, 1)) :: (fwd c 2, some (.arecv, 2)) :: (fwd c 3, some (.arecv, 3)) :: (fwd c 4, some (.arecv, 4))
    :: (fwd c 5, some (.arecv, 5)) :: (fwd c 6, some (.arecv, 6)) :: (fwd c 7, some (.arecv, 7)) :: duesN c
/-- the wide chunks before those, -/
def duesQ (c : Dev nD) : List (Dev nD × Kd) :=
  (fwd c 1, some (.recv, 0)) :: (fwd c 2, some (.recv, 1)) :: (fwd c 3, some (.recv, 2)) :: (fwd c 4, some (.recv, 3))
    :: (fwd c 5, some (.recv, 4)) :: duesA c
/-- and first the signals. -/
def dues (c : Dev nD) : List (Dev nD × Kd) := sigs c [0, 1, 2, 3, 4, 5, 6, 7] ++ duesQ c

/-- What device `c` owes at launch. -/
def O₀ (c : Dev nD) : CellTallies nD τ sig Unit := owed (dues c)

/-- The units the others owe a cell of `p`: one duty's weight from each of its payers, if it is one a copy or
    a signal arrives at. -/
def inward : Kd → Bool
  | none => true
  | some (.recv, j) => j ≠ 7
  | some (.arecv, k) => k ≠ 0
  | _ => false
/-- The devices together list an inward counter as often as it has payers, -/
theorem dues_count (p : Dev nD) (κ : Kd) (h : inward κ = true) :
    (∑ d : Dev nD, (dues d).count (p, κ)) = (payers p κ).card := by
  revert p κ; decide +kernel
/-- and so owe it what is waited for. -/
theorem owed_sum (p : Dev nD) (κ : Kd) (h : inward κ = true) :
    (∑ d : Dev nD, O₀ d (kcell (p, κ)) ()) = (payers p κ).card * wt κ := by
  unfold O₀
  rw [Finset.sum_congr rfl fun d _ => owed_count (dues d) (p, κ), ← Finset.sum_mul, dues_count p κ h]

/-! ## Levels -/

def L (g : GSem nD τ sig) : Finset Unit := if g.1.2 = .tc then {()} else ∅
/-- The level of a cell. -/
def lvK : Kd → ℕ
  | none => 1
  | some (.arecv, _) => 2
  | some (.recv, _) => 3
  | _ => 0
/-- The level of any semaphore: those of no cell are at 0. -/
def lv (g : GSem nD τ sig) (_ : Unit) : ℕ := ((kindOf g.2).map lvK).getD 0

/-- Only the devices' own threads have counters to wait for, -/
theorem L_of_ne (g : GSem nD τ sig) (h : g.1.2 ≠ .tc) : L g = ∅ := if_neg h
/-- one use of each, -/
theorem L_tc (c : Dev nD) (sm : SemLoc sig) : L ((c : Thread nD τ), sm) = {()} := if_pos rfl
/-- at the level of its kind. -/
theorem lv_csem (p : Dev nD) (κ : Kd) (u : Unit) : lv (kcell (p, κ)) u = lvK κ := by unfold lv; rw [kindOf_csem]; rfl

omit [FloatOps F] in
/-- A device may wait at a semaphore whose level is below those of all the cells it still owes. -/
theorem mayWait (c : Dev nD) (sm : SemLoc sig) (n : ℕ) (l : List (Dev nD × Kd)) (hsm : lv ((c : Thread nD τ), sm) () ≤ n)
    (hl : ∀ e ∈ l, n < lvK e.2) : (levAts L lv : sProp 𝕄) ⊢ MayWait (c : Thread nD τ) sm () (owed l) :=
  MayOwe.of_cut (L := L) (lev := lv) n (fun p hp => by rw [Finset.mem_singleton.mp hp, L_tc]; exact Finset.mem_singleton_self _)
    (fun g u hg => by obtain ⟨e, _, rfl⟩ := owed_pos hg; exact Finset.mem_singleton_self _)
    (fun p hp => by rw [Finset.mem_singleton.mp hp]; exact hsm)
    (fun g u hg => by obtain ⟨⟨p, κ⟩, he, rfl⟩ := owed_pos hg; rw [lv_csem]; exact hl _ he)

end Cert.QMM

end
-- ==== Proof.Rules.lean ====
/-
The rules the body is stepped with, each stated once for any chunk: what every device knows (`ctx`), a copy to
another device, a wait on a cell, a signal, a local load or store of a piece.
-/
module

public import proofs.«01_k».proof.Proof.Sched

@[expose] public section

noncomputable section

namespace Cert.QMM

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a piece of the body on device `c`. -/
abbrev run (c : Dev nD) {α : Type} (p : PP F α) (Q : α → sProp 𝕄) : sProp 𝕄 :=
  wp frame (wpE (defs₀ (F := F)) 𝒱₀ (c : Thread nD τ) none) Set.univ p Q

variable (K : Dev nD × Kd → ℕ)

/-- What every device knows: the invariant of every cell, that every cell has reached its round, the levels. -/
def ctx : sProp 𝕄 :=
  iprop((bigSep Finset.univ fun e : Dev nD × Kd => iprop(cellInv EB (rd m ρ) (K e) (kcell e) ∗ reached EB (kcell e) 0)) ∗ levAts L lv)

instance ctx_persistent : BI.Persistent (ctx (F := F) m ρ K) := by unfold ctx; infer_instance

/-- Every counter has its invariant, and has reached its round. -/
theorem inv_at (e : Dev nD × Kd) : ctx (F := F) m ρ K ⊢ iprop(cellInv EB (rd m ρ) (K e) (kcell e) ∗ reached EB (kcell e) 0) := by
  have h : (bigSep Finset.univ fun e : Dev nD × Kd => iprop(cellInv EB (rd m ρ) (K e) (kcell e) ∗ reached EB (kcell e) 0))
      ⊢ (iprop(cellInv EB (rd m ρ) (K e) (kcell e) ∗ reached EB (kcell e) 0) : sProp 𝕄) := bigSep_elim (Finset.mem_univ e)
  unfold ctx
  iintro ⟨H, -⟩
  iapply h
  iexact H
/-- The levels are known. -/
theorem lev_at : ctx (F := F) m ρ K ⊢ levAts L lv := by
  unfold ctx; iintro ⟨-, H⟩; iexact H

/-- Device `c` owes the payments of a list. -/
def ow (c : Dev nD) (l : List (Dev nD × Kd)) : sProp 𝕄 := iprop(∃ W, owes (c : Thread nD τ) (owed l) W)
/-- Its token for the payment at a cell. -/
abbrev tok (c : Dev nD) (e : Dev nD × Kd) : sProp 𝕄 := dutyTok EB (kcell e) 0 c
/-- Its credit at a cell of its own: the units that will arrive there. -/
def credit (c : Dev nD) (κ : Kd) : sProp 𝕄 := cred (tallyAt (kcell (c, κ)) () ((payers c κ).card * wt κ))
/-- Its place at a cell of its own, before its round. -/
abbrev place (c : Dev nD) (κ : Kd) : sProp 𝕄 := atPos EB (kcell (c, κ)) 0 ∅ 0
/-- A cell of its own, closed. -/
abbrev shut (c : Dev nD) (κ : Kd) : sProp 𝕄 := semVal (kcell (c, κ)) 0

/-- Closing a cell that has had its round. -/
theorem close_late (c : Dev nD) (κ : Kd) : iprop(ctx (F := F) m ρ K ∗ atPos EB (kcell (c, κ)) 1 ∅ 0) ⊢ iprop(|={Set.univ}=> shut c κ) := by
  iintro ⟨#H, Hat⟩
  ihave Hi := (inv_at m ρ K (c, κ)) $$ H
  icases Hi with ⟨HI, -⟩
  iapply (Rounds.cell_close EB (rd m ρ) (κ := K (c, κ)) (Set.mem_univ _) (fun h => h) (fun r hr => duties_later m ρ _ r hr))
  isplitl [HI] <;> iassumption
/-- Closing a cell that nobody pays. -/
theorem close_idle (c : Dev nD) (κ : Kd) (h : payers c κ = ∅) : iprop(ctx (F := F) m ρ K ∗ place c κ) ⊢ iprop(|={Set.univ}=> shut c κ) := by
  iintro ⟨#H, Hat⟩
  ihave Hi := (inv_at m ρ K (c, κ)) $$ H
  icases Hi with ⟨HI, -⟩
  iapply (Rounds.cell_close EB (rd m ρ) (κ := K (c, κ)) (R := 0) (Set.mem_univ _) (fun h => h) (fun r hr => by
    rcases Nat.eq_zero_or_pos r with rfl | h1
    · rw [duties_eq, h]
    · exact duties_later m ρ _ r h1))
  isplitl [HI] <;> iassumption

/-! ## A copy to another device -/

/-- Sending a piece: the source is lent to the send cell, the destination handed over at the receive cell. -/
theorem send_rule (c p n : Dev nD) (hn : n = p) (κs κr : Kd) {sp sp' : Space} {sh : Shape} {e : EltTy}
    {src : Memref sig .tc sp sh e} {dst : Memref sig .tc sp' sh e} {hsc} {sS sR : DmaSem sig} {hsrc hdst hsem}
    (hs : csem κs = .dma sS) (hr : csem κr = .dma sR)
    (q : PosShare TreeShare) (X : sh.Idx → Elt F e) (l : List (Dev nD × Kd))
    (hps : c ∈ payers c κs) (hpr : c ∈ payers p κr)
    (hw : wt κs = wt κr) (hN : dst.view.dmaCredit = wt κr)
    (h₁ : owns (c : Thread nD τ) src q X ⊢ pay (F := F) m ρ c c κs)
    (h₂ : holds p dst X ⊢ pay (F := F) m ρ p c κr)
    {α : Type} (k : PUnit → PP F α) (Q : α → sProp 𝕄) :
    iprop(ctx m ρ K ∗ owns (c : Thread nD τ) src q X ∗ has p dst ∗ tok c (c, κs) ∗ tok c (p, κr) ∗ ow c ((p, κr) :: l))
      ⊢ iprop(((cred (tallyAt (kcell (c, κs)) () (wt κs)) ∗ ow c l) -∗ run c (k ⟨⟩) Q)
        -∗ run c (.op (.enqueueDma src (.remote (Dev.tc n) dst (.dma sS) hsc) (.dma sR) hsrc hdst hsem) k) Q) := by
  subst hn
  have es : kcell (c, κs) = ((c : Thread nD τ), .dma sS) := by unfold kcell; rw [hs]
  have er : kcell (n, κr) = ((n : Thread nD τ), .dma sR) := by unfold kcell; rw [hr]
  have hO : owed ((n, κr) :: l) = owed l + tallyAt ((n : Thread nD τ), .dma sR) () (wt κr) := by rw [← er]; rfl
  have d₁ := duties_eq m ρ c κs
  have d₂ := duties_eq m ρ n κr
  have a₁ := amount_eq m ρ c κs c
  have a₂ := amount_eq m ρ n κr c
  have p₁ := payload_eq m ρ c κs c
  have p₂ := payload_eq m ρ n κr c
  have hd₁ := hps
  have hd₂ := hpr
  have hk₁ := a₁.trans hw
  have g₁ : ∀ fs, src.view.read (Elt F) fs = X → ((src.view.loc (c : Thread nD τ) ↦[src.view.set]{q} fs) ⊢ pay (F := F) m ρ c c κs) := by
    intro fs hfs
    refine (owns_intro (c : Thread nD τ) src q fs).trans ?_
    rw [hfs]; exact h₁
  have g₂ : ∀ fs fd, src.view.read (Elt F) fs = X
      → ((dst.view.loc (n : Thread nD τ) ↦[dst.view.set]{fullShare} (dst.view.write (Elt F) fd (src.view.read (Elt F) fs) Finset.univ)) ⊢ pay (F := F) m ρ n c κr) := by
    intro fs fd hfs
    refine (show _ ⊢ holds n dst X from ?_).trans h₂
    refine (owns_intro (n : Thread nD τ) dst fullShare _).trans ?_
    rw [View.read_write_univ, hfs]
  rw [← d₁] at hd₁
  rw [← d₂] at hd₂
  rw [← p₁] at g₁
  rw [← p₂] at g₂
  clear h₁ h₂ hps hpr d₁ d₂ p₁ p₂
  unfold ow
  iintro ⟨#H, Hs, Hd, Ht₁, Ht₂, %W, HO⟩ Hk
  ihave Hi₁ := (inv_at m ρ K (c, κs)) $$ H
  ihave Hi₂ := (inv_at m ρ K (n, κr)) $$ H
  icases Hi₁ with ⟨#HI₁, #HR₁⟩
  icases Hi₂ with ⟨#HI₂, #HR₂⟩
  unfold has owns ownsSat
  icases Hs with ⟨%fs, %hfs, Hs⟩
  icases Hd with ⟨%fd, -, Hd⟩
  dsimp only [tok] at *
  rw [es] at *
  rw [er] at *
  iapply (Rounds.wp_send_pointsTo 𝒱₀ EB (rd m ρ) (c : Thread nD τ) none (c' := (n : Thread nD τ)) (src := src) (dst := dst) (hsc := hsc) (sS := .dma sS) (sem := .dma sR)
      (hsrc := hsrc) (hdst := hdst) (hsem := hsem) (κ₁ := K (c, κs)) (κ₂ := K (n, κr)) (r₁ := 0) (r₂ := 0) (d₁ := c) (d₂ := c)
      (fs := fs) (fd := fd) (q := q) hd₁ hd₂ () () (wt κr) hN hk₁ a₂ (O₀ := owed ((n, κr) :: l)) (owed l) hO (g₁ fs hfs) (g₂ fs fd hfs))
    $$ [Hs Hd HO Ht₁ Ht₂]
  · isplitr; · iexact HI₁
    isplitr; · iexact HI₂
    isplitl [Hs]; · iexact Hs
    isplitl [Hd]; · iexact Hd
    isplitl [HO]; · iexact HO
    isplitl [Ht₁]; · iexact Ht₁
    isplitr; · iexact HR₁
    isplitl [Ht₂]; · iexact Ht₂
    iexact HR₂
  rw [hw]
  iintro ⟨Hc, HO⟩
  iapply Hk
  isplitl [Hc]; · iexact Hc
  iexists W; iexact HO

/-! ## A wait -/

/-- Waiting for a copy at a cell that one device pays: its payload, and the cell is closed. -/
theorem wait_rule (c d : Dev nD) (κ : Kd) {s : DmaSem sig} {sp sp' : Space} {sh sh' : Shape} {e e' : EltTy}
    {src : Memref sig .tc sp sh e} {dst : Memref sig .tc sp' sh' e'} {hsrc hdst}
    (hs : csem κ = .dma s) (hp : payers c κ = {d}) (hN : dst.view.dmaCredit = wt κ)
    (l : List (Dev nD × Kd)) (hl : ∀ e ∈ l, lvK κ < lvK e.2)
    {α : Type} (k : PUnit → PP F α) (Q : α → sProp 𝕄) :
    iprop(ctx m ρ K ∗ cred (tallyAt (kcell (c, κ)) () (wt κ)) ∗ place c κ ∗ ow c l)
      ⊢ iprop(((pay m ρ c d κ ∗ shut c κ ∗ ow c l) -∗ run c (k ⟨⟩) Q)
        -∗ run c (.op (.waitDma2 s src dst hsrc hdst) k) Q) := by
  have es : kcell (c, κ) = ((c : Thread nD τ), .dma s) := by unfold kcell; rw [hs]
  have ex := expect_eq m ρ c κ
  have rs := rest_eq m ρ c κ
  have hlv : lv ((c : Thread nD τ), .dma s) () ≤ lvK κ := by rw [← es, lv_csem]
  have hcl := close_late m ρ K c κ
  rw [hp, bigSep_singleton] at rs
  rw [hp, Finset.card_singleton, Nat.one_mul] at ex
  unfold ow
  iintro ⟨#H, Hc, Hat, %W, HO⟩ Hk
  ihave Hi := (inv_at m ρ K (c, κ)) $$ H
  icases Hi with ⟨#HI, -⟩
  ihave Hl := (lev_at m ρ K) $$ H
  dsimp only [place, shut] at *
  rw [es] at *
  iapply (Rounds.wp_wait_rest_token 𝒱₀ EB (rd m ρ) (c : Thread nD τ) none (κ := K (c, κ)) (k' := wt κ)
      (fun Kk => by rw [← hN]; exact wpE_waitDma2_eq 𝒱₀ (c : Thread nD τ) none Set.univ Kk) (Set.mem_univ _) () (O := owed l) (W := W) (R := 0) (m := 0) (T := ∅)
      (by rw [Nat.zero_add, ex])) $$ [Hc HO Hat Hl]
  · isplitr; · iexact HI
    isplitl [Hc]; · iexact Hc
    isplitl [HO]; · iexact HO
    isplitl [Hl]; · iapply (mayWait c (.dma s) (lvK κ) l hlv hl); iexact Hl
    iexact Hat
  iintro ⟨HO, Hat, -, Hpay⟩
  imod hcl $$ [Hat] with Hz
  · isplitr; · iexact H
    iexact Hat
  iapply Hk
  isplitl [Hpay]
  · iapply (Entails.of_eq rs); iexact Hpay
  isplitl [Hz]; · iexact Hz
  iexists _; iexact HO

/-! ## The handshake's signals and wait -/

/-- The signal to device `t`'s barrier, unless it is `c` itself: `c`'s places for `t` go with it. -/
theorem signal_rule (c t : Dev nD) (l : List (Dev nD × Kd)) (h : c ≠ t) {α : Type} (k : PUnit → PP F α) (Q : α → sProp 𝕄) :
    iprop(ctx m ρ K ∗ land c (gap t c - 1) ∗ has c (aRow (gap t c)) ∗ tok c (t, none) ∗ ow c ((t, none) :: l))
      ⊢ iprop((ow c l -∗ run c (k ⟨⟩) Q) -∗ run c (.op (.semSignal (Dev.tc t) barS 1) k) Q) := by
  unfold ow
  iintro ⟨#H, Hld, Har, Ht, %W, HO⟩ Hk
  ihave Hi := (inv_at m ρ K (t, none)) $$ H
  icases Hi with ⟨#HI, #HR⟩
  iapply (Rounds.wp_signal 𝒱₀ EB (rd m ρ) (c : Thread nD τ) none (dst := (t : Thread nD τ)) (sem := barS) (r := 0) (κ := K (t, none)) (d := c) (k' := 1)
      ((duties_eq m ρ t none).symm ▸ Finset.mem_erase.mpr ⟨h, Finset.mem_univ _⟩) (amount_eq m ρ t none c) () (owed l) rfl) $$ [HO Hld Har Ht]
  · isplitr; · iexact HI
    isplitl [HO]; · iexact HO
    isplitl [Ht]; · iexact Ht
    isplitl [Hld Har]
    · iapply (Entails.of_eq (payload_eq m ρ t none c).symm)
      unfold pay
      isplitl [Hld] <;> iassumption
    iexact HR
  iintro HO
  iapply Hk
  iexists W; iexact HO

/-- The wait for the seven signals: every other device's places for `c`. -/
theorem barrier_rule (c : Dev nD) (l : List (Dev nD × Kd)) (hl : ∀ e ∈ l, 1 < lvK e.2) {α : Type} (k : PUnit → PP F α) (Q : α → sProp 𝕄) :
    iprop(ctx m ρ K ∗ credit c none ∗ place c none ∗ ow c l)
      ⊢ iprop((((bigSep (Finset.univ.erase c) fun d => iprop(land d (gap c d - 1) ∗ has d (aRow (gap c d)))) ∗ shut c none ∗ ow c l) -∗ run c (k ⟨⟩) Q)
        -∗ run c (.op (.semWait barS 7) k) Q) := by
  have hcard : (payers c none).card * wt none = 7 := by
    have : (payers c none).card = 7 := by revert c; decide
    rw [this]; rfl
  have rs := rest_eq m ρ c none
  have ex := expect_eq m ρ c none
  rw [hcard] at ex
  have hcl := close_late m ρ K c none
  unfold ow credit
  rw [hcard]
  iintro ⟨#H, Hc, Hat, %W, HO⟩ Hk
  ihave Hi := (inv_at m ρ K (c, none)) $$ H
  icases Hi with ⟨#HI, -⟩
  ihave Hl := (lev_at m ρ K) $$ H
  iapply (Rounds.wp_wait_rest_token 𝒱₀ EB (rd m ρ) (c : Thread nD τ) none (sm := .reg barS) (κ := K (c, none)) (k' := 7)
      (wpE_semWait_eq 𝒱₀ (c : Thread nD τ) none Set.univ) (Set.mem_univ _) () (O := owed l) (W := W) (R := 0) (m := 0) (T := ∅)
      (by rw [Nat.zero_add]; exact ex.symm)) $$ [Hc HO Hat Hl]
  · isplitr; · iexact HI
    isplitl [Hc]; · iexact Hc
    isplitl [HO]; · iexact HO
    isplitl [Hl]
    · iapply (mayWait c (.reg barS) 1 l (by have := lv_csem c none (); exact this.le) hl); iexact Hl
    iexact Hat
  iintro ⟨HO, Hat, -, Hpay⟩
  imod hcl $$ [Hat] with Hz
  · isplitr; · iexact H
    iexact Hat
  iapply Hk
  isplitl [Hpay]
  · iapply (Entails.of_eq rs); iexact Hpay
  isplitl [Hz]; · iexact Hz
  iexists _; iexact HO

/-! ## Loads and stores of a piece -/

omit [FloatOps F] in
/-- A slice's elements are those its rectangle's access names. -/
theorem load_rule (c : Dev nD) {cs : CoreSpace} {sh : Shape} {e : EltTy} (M : Memref sig .tc cs sh e) (r : Rect sh) (hr : ∀ a, r.stride a = 1)
    (q : PosShare TreeShare) (X : r.shape.Idx → Elt F e) {hl} [FloatOps F] {α : Type} (k : (r.shape.Idx → Elt F e) → PP F α) (Q : α → sProp 𝕄) :
    (owns (c : Thread nD τ) (M.slice r hr) q X : sProp 𝕄)
      ⊢ iprop((owns (c : Thread nD τ) (M.slice r hr) q X -∗ run c (k X) Q) -∗ run c (.op (.load M r.toLoadRect hl) k) Q) := by
  unfold owns
  iintro ⟨%f, %hf, H⟩ Hk
  iapply (wp_load_rect 𝒱₀ (c : Thread nD τ) none Set.univ (m := M) (r := r) (hl := hl) (q := q) (f := f) (k := k) (Finset.Subset.refl _)) $$ H
  iintro H
  have hv : (M.access r).read (Elt F) f = X := hf
  rw [hv]
  iapply Hk
  iexists f
  isplitr; · ipureintro; exact hf
  iexact H

/-- A load of a part whose contents nobody needs. -/
theorem load_any_rule (c : Dev nD) {cs : CoreSpace} {sh : Shape} {e : EltTy} (M : Memref sig .tc cs sh e) (r : Rect sh) (hr : ∀ a, r.stride a = 1)
    {hl} {α : Type} (k : (r.shape.Idx → Elt F e) → PP F α) (Q : α → sProp 𝕄) :
    (has c (M.slice r hr) : sProp 𝕄)
      ⊢ iprop((∀ X, has c (M.slice r hr) -∗ run c (k X) Q) -∗ run c (.op (.load M r.toLoadRect hl) k) Q) := by
  unfold has ownsSat
  iintro ⟨%f, -, H⟩ Hk
  iapply (wp_load_rect 𝒱₀ (c : Thread nD τ) none Set.univ (m := M) (r := r) (hl := hl) (f := f) (k := k) (Finset.Subset.refl _)) $$ H
  iintro H
  iapply Hk
  iexists f
  isplitr; · ipureintro; trivial
  iexact H

/-- A store fills a part with what is stored. -/
theorem store_rule (c : Dev nD) {cs : CoreSpace} {sh : Shape} {e : EltTy} (M : Memref sig .tc cs sh e) (r : Rect sh) (hr : ∀ a, r.stride a = 1)
    (w : r.shape.Idx → Elt F e) {hx hm} {α : Type} (k : PUnit → PP F α) (Q : α → sProp 𝕄) :
    (has c (M.slice r hr) : sProp 𝕄)
      ⊢ iprop((holds c (M.slice r hr) w -∗ run c (k ⟨⟩) Q) -∗ run c (.op (.store M r w Finset.univ hx hm) k) Q) := by
  unfold has ownsSat holds owns
  iintro ⟨%f, -, H⟩ Hk
  iapply (wp_store 𝒱₀ (c : Thread nD τ) none Set.univ (m := M) (r := r) (w := w) (Mk := Finset.univ) (hx := hx) (hm := hm) (f := f) (S := (M.access r).set) (k := k) (Finset.Subset.refl _)) $$ H
  iintro H
  iapply Hk
  iexists _
  isplitr
  rotate_left
  · iexact H
  · ipureintro
    exact View.read_write_univ (v := M.access r) (Val := Elt F) f w

end Cert.QMM

end
-- ==== Proof.Pieces.lean ====
/-
The same elements under two names: a whole buffer and its full box, two halves and their chunk, a slot and its
squeeze; and buffers cut into their pieces and put together again.
-/
module

public import proofs.«01_k».proof.Proof.Sched

@[expose] public section

noncomputable section

namespace Cert.QMM

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- The full box of a buffer is the buffer. -/
theorem full_eq (c : Dev nD) {sp : Space} {s : Shape} {e : EltTy} (M : Memref sig .tc sp s e) (off : Fin s.rank → ℕ)
    (inb : ∀ a, off a + s.size a ≤ s.size a) (hr) (q : PosShare TreeShare) (X : s.Idx → Elt F e) :
    (owns (c : Thread nD τ) (M.slice (Rect.unit (s := s) off s.size inb) hr) q X : sProp 𝕄) = owns (c : Thread nD τ) M q X := by
  have hs : (M.view.slice (Rect.unit (s := s) off s.size inb)).set = M.view.set := by
    rw [View.set_slice]
    have : (Rect.unit (s := s) off s.size inb).set = Finset.univ := Finset.eq_univ_iff_forall.mpr fun i => Rect.mem_set_unit.mpr fun a => by
      have := inb a; have := (i a).isLt; omega
    rw [this]; rfl
  have hread : ∀ f, (M.view.slice (Rect.unit (s := s) off s.size inb)).read (Elt F) f = M.view.read (Elt F) f := fun f => funext fun i => by
    show M.view.read (Elt F) f ((Rect.unit (s := s) off s.size inb).emb i) = _
    refine congrArg (M.view.read (Elt F) f) (funext fun a => Fin.ext ?_)
    have h0 := inb a
    show off a + 1 * (i a).val = (i a).val
    omega
  unfold owns
  show iprop(∃ f, ⌜(M.view.slice (Rect.unit (s := s) off s.size inb)).read (Elt F) f = X⌝ ∗ (M.view.loc (c : Thread nD τ) ↦[(M.view.slice (Rect.unit (s := s) off s.size inb)).set]{q} f)) = _
  rw [hs]
  simp only [hread]

omit [FloatOps F] in
/-- A half of chunk `j` is that half of the buffer. -/
theorem half_eq (c : Dev nD) (j : Fin 8) (h : Fin 2) (q : PosShare TreeShare) (X : S1x512x512.Idx → Elt F .bf16) :
    (owns (c : Thread nD τ) ((qC j).slice (partR h) (fun _ => rfl)) q X : sProp 𝕄) = owns (c : Thread nD τ) (qM.slice (halfR j h) (fun _ => rfl)) q X := by
  have he : ∀ i, (chunkR j).emb ((partR h).emb i) = (halfR j h).emb i := fun i => funext fun a => Fin.ext (by
    rw [Rect.emb_apply, Rect.emb_apply, Rect.emb_apply]
    match a with
    | ⟨0, _⟩ => show j.val + 1 * (0 + 1 * (i 0).val) = j.val + 1 * (i 0).val; omega
    | ⟨1, _⟩ => show 0 + 1 * (0 + 1 * (i 1).val) = 0 + 1 * (i 1).val; omega
    | ⟨2, _⟩ => show 0 + 1 * (512 * h.val + 1 * (i 2).val) = 512 * h.val + 1 * (i 2).val; omega)
  have hs : ((qM.view.slice (chunkR j)).slice (partR h)).set = (qM.view.slice (halfR j h)).set := by
    ext x
    simp only [View.set, Finset.mem_map, Finset.mem_univ, true_and]
    constructor
    · rintro ⟨i, rfl⟩; exact ⟨i, (he i).symm⟩
    · rintro ⟨i, rfl⟩; exact ⟨i, he i⟩
  have hread : ∀ f, ((qM.view.slice (chunkR j)).slice (partR h)).read (Elt F) f = (qM.view.slice (halfR j h)).read (Elt F) f := fun f => funext fun i => by
    show f ((chunkR j).emb ((partR h).emb i)) = f ((halfR j h).emb i)
    rw [he]
  unfold owns
  show iprop(∃ f, ⌜((qM.view.slice (chunkR j)).slice (partR h)).read (Elt F) f = X⌝ ∗ (qM.view.loc (c : Thread nD τ) ↦[((qM.view.slice (chunkR j)).slice (partR h)).set]{q} f)) = _
  rw [hs]
  simp only [hread]

omit [FloatOps F] in
/-- A squeezed memref is the memref, its contents renumbered. -/
theorem squeeze_eq (c : Dev nD) {sp : Space} {s s' : Shape} {e : EltTy} (M : Memref sig .tc sp s e) (h : s.Squeezes s') (q : PosShare TreeShare) (X : s'.Idx → Elt F e) :
    (owns (c : Thread nD τ) (M.squeeze s' h) q X : sProp 𝕄) = owns (c : Thread nD τ) M q (fun i => X ((Shape.reshapeEquiv h.numel_eq).symm i)) := by
  have hs : (M.view.reshape s' h.numel_eq).set = M.view.set := by rw [View.set_reshape]
  have hread : ∀ f, ((M.view.reshape s' h.numel_eq).read (Elt F) f = X) = (M.view.read (Elt F) f = fun i => X ((Shape.reshapeEquiv h.numel_eq).symm i)) := fun f => propext (by
    constructor
    · rintro rfl; funext i
      show M.view.read (Elt F) f i = M.view.read (Elt F) f (Shape.reshapeEquiv h.numel_eq ((Shape.reshapeEquiv h.numel_eq).symm i))
      rw [Equiv.apply_symm_apply]
    · intro hX; funext i
      show M.view.read (Elt F) f (Shape.reshapeEquiv h.numel_eq i) = X i
      rw [hX]
      exact congrArg X (Equiv.symm_apply_apply _ i))
  unfold owns
  show iprop(∃ f, ⌜(M.view.reshape s' h.numel_eq).read (Elt F) f = X⌝ ∗ (M.view.loc (c : Thread nD τ) ↦[(M.view.reshape s' h.numel_eq).set]{q} f)) = _
  rw [hs]
  simp only [hread]

/-! ## Eight pieces -/

omit [FloatOps F] in
/-- Eight parts, one by one, -/
theorem eight {Φ : Fin 8 → sProp 𝕄} : (bigSep Finset.univ Φ) = iprop(Φ 0 ∗ Φ 1 ∗ Φ 2 ∗ Φ 3 ∗ Φ 4 ∗ Φ 5 ∗ Φ 6 ∗ Φ 7) :=
  bigSep_univ_eq_bigSepL ([0, 1, 2, 3, 4, 5, 6, 7] : List (Fin 8)) (by decide) (by decide) Φ
omit [FloatOps F] in
/-- and two. -/
theorem two {Φ : Fin 2 → sProp 𝕄} : (bigSep Finset.univ Φ) = iprop(Φ 0 ∗ Φ 1) :=
  bigSep_univ_eq_bigSepL ([0, 1] : List (Fin 2)) (by decide) (by decide) Φ

/-- Any contents: what a join of pieces of unknown contents needs. -/
instance elt_nonempty (e : EltTy) : Nonempty (Elt F e) := inferInstance

/-- A buffer of unknown contents is its pieces, -/
theorem has_cut (c : Dev nD) {T : Type} [Fintype T] [DecidableEq T] {sp : Space} {s : Shape} {e : EltTy} (M : Memref sig .tc sp s e) (r : T → Rect s)
    (hr : ∀ t a, (r t).stride a = 1) (hd : ∀ t t', t ≠ t' → Disjoint (r t).set (r t').set) (hcov : (Finset.univ : Finset T).biUnion (fun t => (r t).set) = Finset.univ) :
    (has c M : sProp 𝕄) ⊢ bigSep Finset.univ fun t => has c (M.slice (r t) (hr t)) :=
  (ownsSat_mono (Φ := fun _ => True) (Ψ := fun X => ∀ t, (fun _ _ => True : (t : T) → ((r t).shape.Idx → Elt F e) → Prop) t fun j => X ((r t).emb j)) (c : Thread nD τ) M fullShare (fun _ _ _ => trivial)).trans
    (ownsSat_rects (c : Thread nD τ) M fullShare r hr hd hcov (Ψ := fun _ _ => True))
/-- and back. -/
theorem has_join (c : Dev nD) {T : Type} [Fintype T] [DecidableEq T] {sp : Space} {s : Shape} {e : EltTy} (M : Memref sig .tc sp s e) (r : T → Rect s)
    (hr : ∀ t a, (r t).stride a = 1) (hd : ∀ t t', t ≠ t' → Disjoint (r t).set (r t').set) (hcov : (Finset.univ : Finset T).biUnion (fun t => (r t).set) = Finset.univ) :
    (bigSep Finset.univ fun t => has c (M.slice (r t) (hr t))) ⊢ (has c M : sProp 𝕄) :=
  (ownsSat_of_rects (c : Thread nD τ) M fullShare r hr hd hcov (Ψ := fun _ _ => True)).trans
    (ownsSat_mono (c : Thread nD τ) M fullShare (fun _ _ => trivial))
/-- Pieces of known contents make the buffer at their contents glued together. -/
theorem glue_join (c : Dev nD) {T : Type} [Fintype T] [DecidableEq T] {sp : Space} {s : Shape} {e : EltTy} (M : Memref sig .tc sp s e) (r : T → Rect s)
    (hr : ∀ t a, (r t).stride a = 1) (hd : ∀ t t', t ≠ t' → Disjoint (r t).set (r t').set) (hcov : (Finset.univ : Finset T).biUnion (fun t => (r t).set) = Finset.univ)
    (Xs : (t : T) → (r t).shape.Idx → Elt F e) :
    (bigSep Finset.univ fun t => holds c (M.slice (r t) (hr t)) (Xs t)) ⊢ (holds c M (Rect.glue (β := Elt F e) r hcov Xs) : sProp 𝕄) := by
  have hg (t : T) : (fun j => Rect.glue (β := Elt F e) r hcov Xs ((r t).emb j)) = Xs t := funext fun y => Rect.glue_emb r hcov hd Xs t y
  refine Eq.subst (motive := fun Ys : (t : T) → (r t).shape.Idx → Elt F e => (bigSep Finset.univ fun t => holds c (M.slice (r t) (hr t)) (Ys t)) ⊢ (holds c M (Rect.glue (β := Elt F e) r hcov Xs) : sProp 𝕄))
    (funext hg) ?_
  exact owns_of_rects (c : Thread nD τ) M fullShare r hr hd hcov (Rect.glue (β := Elt F e) r hcov Xs)

end Cert.QMM

end
-- ==== Proof.Steps.lean ====
/-
What each step of the sequence does, stated once for any chunk, row or block.
-/
module

public import proofs.«01_k».proof.Proof.Rules
public import proofs.«01_k».proof.Proof.Pieces

@[expose] public section

noncomputable section

namespace Cert.QMM

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Kd → ℕ)

/-- A sequence is its first step and then the rest. -/
theorem seq_rule (c : Dev nD) {α β : Type} (p : PP F α) (k : α → PP F β) (Q : β → sProp 𝕄) :
    run c p (fun a => run c (k a) Q) ⊢ run c (p >>= k) Q := by
  show _ ⊢ wp frame _ _ (p >>= k) Q
  rw [wp_bind]

/-- A sequence that has ended. -/
theorem ret_rule (c : Dev nD) {α : Type} {a : α} {Q : α → sProp 𝕄} : Q a ⊢ run (F := F) c (Prog.ret a) Q := by
  show _ ⊢ wp frame _ _ (Prog.ret a) Q
  rw [wp_ret]
  iintro H; imodintro; iexact H

/-- The credit a device has at a cell that one copy pays. -/
abbrev due (c : Dev nD) (κ : Kd) : sProp 𝕄 := cred (tallyAt (kcell (c, κ)) () (wt κ))

/-! ## The weight tiles -/

/-- The share of `w` the copies into slot `h` read with. -/
def wq : Fin 2 → PosShare TreeShare
  | 0 => fullShare.left
  | 1 => fullShare.right
/-- The credit of a weight tile. -/
def NW : ℕ := (slotM 0).view.dmaCredit
/-- A weight tile has bytes. -/
theorem NW_pos : 0 < NW := View.dmaCredit_pos _ (by decide)

/-- The semaphores of the weight copies are no cells. -/
theorem wS_free (h : Fin 2) : ∀ κ, csem κ ≠ .dma (wS h) := by revert h; decide +kernel

/-- How much the copies pay: into a row of maxima, -/
theorem credit_a (k : Fin 8) : (aRow k).view.dmaCredit = NA := rfl
/-- from one, -/
theorem credit_t : (tM : Memref sig .tc .vmem S1x128 .f32).view.dmaCredit = NA := by decide +kernel
/-- into a wide chunk, -/
theorem credit_r (j : Fin 8) : (rC j).view.dmaCredit = NQ := rfl
/-- from one, -/
theorem credit_q (j : Fin 8) : (qC j).view.dmaCredit = NQ := by
  show (qC 0).view.dmaCredit = NQ; decide +kernel
/-- into a narrow chunk, -/
theorem credit_r4 (e : Fin 2) : (r4C e).view.dmaCredit = N4 := rfl
/-- from one. -/
theorem credit_q4 (e : Fin 2) : (q4C e).view.dmaCredit = N4 := by
  show (q4C 0).view.dmaCredit = N4; decide +kernel

/-- Slot `h` at rest. -/
def slotIdle (c : Dev nD) (h : Fin 2) : sProp 𝕄 :=
  iprop(has c (bM.slice (slotR h) (fun _ => rfl)) ∗ semVal ((c : Thread nD τ), .dma (wS h)) 0 ∗ (((c : Thread nD τ).loc main_arg1) ↦{wq h} wv m c))
/-- Slot `h` with the tile of chunk `j` on its way into it. -/
def slotFly (c : Dev nD) (j : Fin 8) (h : Fin 2) : sProp 𝕄 :=
  iprop(∃ fd, Transfers.Flight EC (c : Thread nD τ) (.dma (wS h)) () NW
      iprop(((slotM h).view.loc (c : Thread nD τ) ↦[(slotM h).view.set]{fullShare} (slotM h).view.write (Elt F) fd (wT m c j h) Finset.univ)
        ∗ ((tileM c j h).view.loc (c : Thread nD τ) ↦[(tileM c j h).view.set]{wq h} wv m c))
    ∗ ((tileM c j h).view.loc (c : Thread nD τ) ↦[Finset.univ \ (tileM c j h).view.set]{wq h} wv m c))

/-- Starting a tile's copy. -/
theorem startW_spec (c : Dev nD) (j : Fin 8) (h : Fin 2) (Q : PUnit → sProp 𝕄) :
    slotIdle m c h ⊢ iprop((slotFly m c j h -∗ Q ⟨⟩) -∗ run c (startW c j h) Q) := by
  have e₁ : (has c (bM.slice (slotR h) (fun _ => rfl)) : sProp 𝕄) ⊢ iprop(∃ f, (slotM h).view.loc (c : Thread nD τ) ↦[(slotM h).view.set]{fullShare} f) := by
    unfold has ownsSat
    have hs : (slotM h).view.set = (bM.slice (slotR h) (fun _ => rfl)).view.set := by
      show (View.reshape _ _ _).set = _
      rw [View.set_reshape]
    rw [hs]
    iintro ⟨%f, -, H⟩
    iexists f; iexact H
  unfold slotIdle startW
  iintro ⟨Hb, Hs, Hw⟩ Hk
  ihave Hb := e₁ $$ Hb
  icases Hb with ⟨%fd, Hb⟩
  ihave Hw := (pointsTo_split_subset (ℓ := (c : Thread nD τ).loc main_arg1) (f := wv m c) (q := wq h) (Finset.subset_univ (tileM c j h).view.set)).1 $$ Hw
  icases Hw with ⟨Hw, Hr⟩
  simp only [Prog.lift]
  iapply (Transfers.wp_dmaLocal EC 𝒱₀ (c : Thread nD τ) none (src := tileM c j h) (dst := slotM h) (sm := .dma (wS h)) (q := wq h) (fs := wv m c) (fd := fd)
    (Sd := (slotM h).view.set) () NW rfl NW_pos (Finset.Subset.refl _)) $$ [Hw Hb Hs]
  · isplitl [Hw]; · iexact Hw
    isplitl [Hb] <;> iassumption
  iintro Hf
  iapply (ret_rule c)
  iapply Hk
  unfold slotFly
  iexists fd
  isplitl [Hf]; · iexact Hf
  iexact Hr

/-- One tile: the product stored, the maximum taken along. -/
theorem gemm_spec (c : Dev nD) (j : Fin 8) (h : Fin 2) (a : F .f32) (l : List (Dev nD × Kd)) (hl : ∀ e ∈ l, 0 < lvK e.2) (Q : F .f32 → sProp 𝕄) :
    iprop(ctx m ρ K ∗ slotFly m c j h ∗ holds c xM (xv m ρ c) ∗ has c (qM.slice (halfR j h) (fun _ => rfl)) ∗ ow c l)
      ⊢ iprop(((slotIdle m c h ∗ holds c xM (xv m ρ c) ∗ holds c (qM.slice (halfR j h) (fun _ => rfl)) (qv m ρ c j h) ∗ ow c l)
          -∗ Q (amV a (xv m ρ c) (wL m c j h))) -∗ run c (gemm c j h a) Q) := by
  have e₁ : ∀ fd, ((slotM h).view.loc (c : Thread nD τ) ↦[(slotM h).view.set]{fullShare} (slotM h).view.write (Elt F) fd (wT m c j h) Finset.univ)
      ⊢ (holds c (bM.slice (slotR h) (fun _ => rfl)) (wL m c j h) : sProp 𝕄) := fun fd => by
    refine (owns_intro (c : Thread nD τ) (slotM h) fullShare _).trans ?_
    rw [View.read_write_univ]
    exact BIBase.Entails.of_eq (squeeze_eq c (bM.slice (slotR h) (fun _ => rfl)) squeezes_S1x4096x512_S4096x512 fullShare (wT m c j h))
  have hlv : lv ((c : Thread nD τ), .dma (wS h)) () ≤ 0 := by
    have : kindOf (.dma (wS h)) = none := kindOf_none (wS_free h)
    unfold lv; rw [this]; exact le_refl 0
  unfold ow slotFly gemm
  iintro ⟨#H, ⟨%fd, Hf, Hr⟩, Hx, Hq, %W, HO⟩ Hk
  ihave Hl := (lev_at m ρ K) $$ H
  simp only [Prog.lift, Prog.bind_op, Prog.bind_ret, Prog.pure_eq_ret]
  iapply (Transfers.wp_waitLocalO EC 𝒱₀ (c : Thread nD τ) none (srcw := tileM c j h) (dstw := slotM h) (sem := wS h) () (N := NW) rfl (O := owed l) (W := W)) $$ [Hf HO Hl]
  · isplitl [Hf]; · iexact Hf
    isplitl [HO]; · iexact HO
    iapply (mayWait c (.dma (wS h)) 0 l hlv hl); iexact Hl
  iintro ⟨⟨Hs, Hw⟩, Hsem, HO⟩
  ihave Hw := (pointsTo_split_subset (ℓ := (c : Thread nD τ).loc main_arg1) (f := wv m c) (q := wq h) (Finset.subset_univ (tileM c j h).view.set)).2 $$ [Hw Hr]
  · isplitl [Hw]; · iexact Hw
    iexact Hr
  ihave Hs := (e₁ fd) $$ Hs
  ihave Hx := (BIBase.Entails.of_eq (full_eq c xM ![0, 0] inb_S512x4096_S512x4096_0_0 (fun _ => rfl) fullShare (xv m ρ c)).symm) $$ Hx
  iapply (load_rule c xM (Rect.unit (s := S512x4096) ![0, 0] S512x4096.size inb_S512x4096_S512x4096_0_0) (fun _ => rfl) fullShare (xv m ρ c)) $$ Hx
  iintro Hx
  iapply (load_rule c bM (slotR h) (fun _ => rfl) fullShare (wL m c j h)) $$ Hs
  iintro Hs
  iapply (load_any_rule c qM (halfR j h) (fun _ => rfl)) $$ Hq
  iintro %q Hq
  iapply (store_rule c qM (halfR j h) (fun _ => rfl)) $$ Hq
  iintro Hq
  iapply (ret_rule c)
  iapply Hk
  unfold slotIdle
  isplitl [Hs Hsem Hw]
  · isplitl [Hs]; · iapply (has_of_holds c); iexact Hs
    isplitl [Hsem]; · iexact Hsem
    iexact Hw
  isplitl [Hx]; · iapply (BIBase.Entails.of_eq (full_eq c xM ![0, 0] inb_S512x4096_S512x4096_0_0 (fun _ => rfl) fullShare (xv m ρ c))); iexact Hx
  isplitl [Hq]; · iexact Hq
  iexists _; iexact HO

/-! ## The copies to other devices -/

/-- Sending a wide chunk. -/
theorem sendQ_spec (c n : Dev nD) (j : Fin 8) (hj : j < 5) (hn : n = fwd c (j + 1)) (l : List (Dev nD × Kd)) (Q : PUnit → sProp 𝕄) :
    iprop(ctx m ρ K ∗ holds c (qC j) (chunkV m ρ c j) ∗ has (fwd c (j + 1)) (rC j) ∗ tok c (c, some (.send, j)) ∗ tok c (fwd c (j + 1), some (.recv, j))
        ∗ ow c ((fwd c (j + 1), some (.recv, j)) :: l))
      ⊢ iprop(((due c (some (.send, j)) ∗ ow c l) -∗ Q ⟨⟩) -∗ run c (sendQ j n) Q) := by
  have h5 : j ≠ 5 := fun h => by subst h; exact absurd hj (by decide)
  have h6 : j ≠ 6 := fun h => by subst h; exact absurd hj (by decide)
  have h7 : j ≠ 7 := fun h => by subst h; exact absurd hj (by decide)
  have hw : wt (some (.recv, j)) = NQ := if_neg (by simp [h5, h6])
  unfold sendQ
  iintro Hall Hk
  simp only [Prog.lift]
  iapply (send_rule m ρ K c (fwd c (j + 1)) n hn (some (.send, j)) (some (.recv, j)) rfl rfl fullShare (chunkV m ρ c j) l
    (by show c ∈ (if j = 7 then _ else _); rw [if_neg h7]; exact Finset.mem_singleton_self c)
    (by show c ∈ (if j = 7 then _ else _); rw [if_neg h7, back_fwd]; exact Finset.mem_singleton_self c)
    rfl (by rw [hw]; rfl)
    (by show _ ⊢ source m ρ c j; unfold source; rw [if_neg h5, if_neg h6])
    (by show _ ⊢ landed m ρ _ j; unfold landed; rw [if_neg h5, if_neg h6, back_fwd])) $$ Hall
  iintro H
  iapply (ret_rule c)
  iapply Hk; iexact H

/-- Sending a narrow chunk. -/
theorem sendQ4_spec (c n : Dev nD) (e : Fin 2) (j : Fin 8) (hj : (e = 0 ∧ j = 5) ∨ (e = 1 ∧ j = 6)) (hn : n = fwd c (j + 1)) (l : List (Dev nD × Kd)) (Q : PUnit → sProp 𝕄) :
    iprop(ctx m ρ K ∗ holds c (q4C e) (q4V m ρ c e) ∗ has (fwd c (j + 1)) (r4C e) ∗ tok c (c, some (.send, j)) ∗ tok c (fwd c (j + 1), some (.recv, j))
        ∗ ow c ((fwd c (j + 1), some (.recv, j)) :: l))
      ⊢ iprop(((due c (some (.send, j)) ∗ ow c l) -∗ Q ⟨⟩) -∗ run c (sendQ4 e j n) Q) := by
  have h7 : j ≠ 7 := by rcases hj with ⟨-, rfl⟩ | ⟨-, rfl⟩ <;> decide
  have hw : wt (some (.recv, j)) = N4 := if_pos (by rcases hj with ⟨-, rfl⟩ | ⟨-, rfl⟩ <;> decide)
  unfold sendQ4
  iintro Hall Hk
  simp only [Prog.lift]
  iapply (send_rule m ρ K c (fwd c (j + 1)) n hn (some (.send, j)) (some (.recv, j)) rfl rfl fullShare (q4V m ρ c e) l
    (by show c ∈ (if j = 7 then _ else _); rw [if_neg h7]; exact Finset.mem_singleton_self c)
    (by show c ∈ (if j = 7 then _ else _); rw [if_neg h7, back_fwd]; exact Finset.mem_singleton_self c)
    rfl (by rw [hw]; rfl)
    (by show _ ⊢ source m ρ c j; unfold source; rcases hj with ⟨rfl, rfl⟩ | ⟨rfl, rfl⟩
        · rw [if_pos rfl]
        · rw [if_neg (by decide), if_pos rfl])
    (by show _ ⊢ landed m ρ _ j; unfold landed; rw [back_fwd]; rcases hj with ⟨rfl, rfl⟩ | ⟨rfl, rfl⟩
        · rw [if_pos rfl]
        · rw [if_neg (by decide), if_pos rfl])) $$ Hall
  iintro H
  iapply (ret_rule c)
  iapply Hk; iexact H

/-- Sending the row of maxima. -/
theorem sendA_spec (c n : Dev nD) (k : Fin 8) (hk : k ≠ 0) (hn : n = fwd c k) (l : List (Dev nD × Kd)) (Q : PUnit → sProp 𝕄) :
    iprop(ctx m ρ K ∗ txShare m ρ c k ∗ has (fwd c k) (aRow k) ∗ tok c (c, some (.asend, k)) ∗ tok c (fwd c k, some (.arecv, k))
        ∗ ow c ((fwd c k, some (.arecv, k)) :: l))
      ⊢ iprop(((due c (some (.asend, k)) ∗ ow c l) -∗ Q ⟨⟩) -∗ run c (sendA k n) Q) := by
  unfold sendA
  iintro Hall Hk
  simp only [Prog.lift]
  iapply (send_rule m ρ K c (fwd c k) n hn (some (.asend, k)) (some (.arecv, k)) (src := tM) (dst := aRow k) (sS := asendS k) (sR := arecvS k) rfl rfl (Transfers.shareTok fullShare 8 k) (tx m ρ c) l
    (by show c ∈ (if k = 0 then _ else _); rw [if_neg hk]; exact Finset.mem_singleton_self c)
    (by show c ∈ (if k = 0 then _ else _); rw [if_neg hk, back_fwd]; exact Finset.mem_singleton_self c)
    rfl (credit_a k)
    (by show _ ⊢ txShare m ρ c k; unfold txShare; exact BI.Entails.refl _)
    (by show _ ⊢ holds _ (aRow k) (tx m ρ (back _ k)); rw [back_fwd])) $$ [Hall]
  · unfold txShare; iexact Hall
  iintro H
  iapply (ret_rule c)
  iapply Hk; iexact H

/-! ## The waits -/

/-- Row `k` of the maxima has arrived. -/
theorem waitA_spec (c : Dev nD) (k : Fin 8) (hk : k ≠ 0) (l : List (Dev nD × Kd)) (hl : ∀ e ∈ l, 2 < lvK e.2) (Q : PUnit → sProp 𝕄) :
    iprop(ctx m ρ K ∗ due c (some (.arecv, k)) ∗ place c (some (.arecv, k)) ∗ ow c l)
      ⊢ iprop(((holds c (aRow k) (tx m ρ (back c k)) ∗ shut c (some (.arecv, k)) ∗ ow c l) -∗ Q ⟨⟩) -∗ run c (waitA k) Q) := by
  unfold waitA
  iintro Hall Hk
  simp only [Prog.lift]
  iapply (wait_rule m ρ K c (back c k) (some (.arecv, k)) (s := arecvS k) (src := tM) (dst := aRow k) rfl (if_neg hk) (credit_a k) l hl) $$ Hall
  iintro H
  iapply (ret_rule c)
  iapply Hk; iexact H

/-- The outgoing wide chunk `j` has left. -/
theorem leftQ_spec (c : Dev nD) (j : Fin 8) (hj : j < 5) (Q : PUnit → sProp 𝕄) :
    iprop(ctx m ρ K ∗ due c (some (.send, j)) ∗ place c (some (.send, j)) ∗ ow c [])
      ⊢ iprop(((source m ρ c j ∗ shut c (some (.send, j)) ∗ ow c []) -∗ Q ⟨⟩) -∗ run c (leftQ j) Q) := by
  have h5 : j ≠ 5 := fun h => by subst h; exact absurd hj (by decide)
  have h6 : j ≠ 6 := fun h => by subst h; exact absurd hj (by decide)
  have h7 : j ≠ 7 := fun h => by subst h; exact absurd hj (by decide)
  have hw : wt (some (.send, j)) = NQ := if_neg (by simp [h5, h6])
  unfold leftQ
  iintro Hall Hk
  simp only [Prog.lift]
  iapply (wait_rule m ρ K c c (some (.send, j)) (s := sendS j) (src := rC j) (dst := qC j) rfl (if_neg h7) ((credit_q j).trans hw.symm) [] (fun _ h => by cases h)) $$ Hall
  iintro H
  iapply (ret_rule c)
  iapply Hk; iexact H

/-- The outgoing narrow chunk `e` has left. -/
theorem leftQ4_spec (c : Dev nD) (e : Fin 2) (j : Fin 8) (hj : (e = 0 ∧ j = 5) ∨ (e = 1 ∧ j = 6)) (Q : PUnit → sProp 𝕄) :
    iprop(ctx m ρ K ∗ due c (some (.send, j)) ∗ place c (some (.send, j)) ∗ ow c [])
      ⊢ iprop(((source m ρ c j ∗ shut c (some (.send, j)) ∗ ow c []) -∗ Q ⟨⟩) -∗ run c (leftQ4 e j) Q) := by
  have h7 : j ≠ 7 := by rcases hj with ⟨-, rfl⟩ | ⟨-, rfl⟩ <;> decide
  have hw : wt (some (.send, j)) = N4 := if_pos (by rcases hj with ⟨-, rfl⟩ | ⟨-, rfl⟩ <;> decide)
  unfold leftQ4
  iintro Hall Hk
  simp only [Prog.lift]
  iapply (wait_rule m ρ K c c (some (.send, j)) (s := sendS j) (src := r4C e) (dst := q4C e) rfl (if_neg h7) ((credit_q4 e).trans hw.symm) [] (fun _ h => by cases h)) $$ Hall
  iintro H
  iapply (ret_rule c)
  iapply Hk; iexact H

/-- The row of maxima sent to the `k`-th device on has left. -/
theorem leftA_spec (c : Dev nD) (k : Fin 8) (hk : k ≠ 0) (Q : PUnit → sProp 𝕄) :
    iprop(ctx m ρ K ∗ due c (some (.asend, k)) ∗ place c (some (.asend, k)) ∗ ow c [])
      ⊢ iprop(((txShare m ρ c k ∗ shut c (some (.asend, k)) ∗ ow c []) -∗ Q ⟨⟩) -∗ run c (leftA k) Q) := by
  unfold leftA
  iintro Hall Hk
  simp only [Prog.lift]
  iapply (wait_rule m ρ K c c (some (.asend, k)) (s := asendS k) (src := aRow k) (dst := tM) rfl (if_neg hk) credit_t [] (fun _ h => by cases h)) $$ Hall
  iintro H
  iapply (ret_rule c)
  iapply Hk; iexact H

/-! ## The result's blocks -/

/-- The device's own block. -/
theorem ownOut_spec (c : Dev nD) (s i : F .f32) (X : Vec F S1x512x1024 .bf16) (Q : PUnit → sProp 𝕄) :
    iprop(holds c (qC 7) X ∗ has c (oM.slice (ownR c) (fun _ => rfl)))
      ⊢ iprop(((holds c (qC 7) X ∗ holds c (oM.slice (ownR c) (fun _ => rfl)) (k0_pay60 s i X)) -∗ Q ⟨⟩) -∗ run c (ownOut c s i) Q) := by
  unfold ownOut
  iintro ⟨Hq, Ho⟩ Hk
  simp only [Prog.lift, Prog.bind_op, Prog.bind_ret]
  iapply (load_rule c qM (chunkR 7) (fun _ => rfl) fullShare X) $$ Hq
  iintro Hq
  iapply (load_any_rule c oM (ownR c) (fun _ => rfl)) $$ Ho
  iintro %o Ho
  iapply (store_rule c oM (ownR c) (fun _ => rfl)) $$ Ho
  iintro Ho
  iapply (ret_rule c)
  iapply Hk
  isplitl [Hq]; · iexact Hq
  iexact Ho

/-- A block that arrives as a wide chunk. -/
theorem farOut_spec (c : Dev nD) (r : Fin 7) (j : Fin 8) (hj : j < 5) (s i : F .f32) (Q : PUnit → sProp 𝕄) :
    iprop(ctx m ρ K ∗ due c (some (.recv, j)) ∗ place c (some (.recv, j)) ∗ ow c [] ∗ has c (oM.slice (farR c r) (fun _ => rfl)))
      ⊢ iprop(((holds c (rC j) (chunkV m ρ (back c (j + 1)) j) ∗ shut c (some (.recv, j)) ∗ ow c []
          ∗ holds c (oM.slice (farR c r) (fun _ => rfl)) (k0_pay60 s i (chunkV m ρ (back c (j + 1)) j))) -∗ Q ⟨⟩) -∗ run c (farOut c r j s i) Q) := by
  have h5 : j ≠ 5 := fun h => by subst h; exact absurd hj (by decide)
  have h6 : j ≠ 6 := fun h => by subst h; exact absurd hj (by decide)
  have h7 : j ≠ 7 := fun h => by subst h; exact absurd hj (by decide)
  have hw : wt (some (.recv, j)) = NQ := if_neg (by simp [h5, h6])
  have hp : pay (F := F) m ρ c (back c (j + 1)) (some (.recv, j)) ⊢ holds c (rC j) (chunkV m ρ (back c (j + 1)) j) := by
    show landed m ρ c j ⊢ _; unfold landed; rw [if_neg h5, if_neg h6]
  unfold farOut
  iintro ⟨#H, Hd, Hp, HO, Ho⟩ Hk
  simp only [Prog.lift, Prog.bind_op, Prog.bind_ret]
  iapply (wait_rule m ρ K c (back c (j + 1)) (some (.recv, j)) (s := recvS j) (src := qC j) (dst := rC j) rfl (if_neg h7) ((credit_r j).trans hw.symm) [] (fun _ h => by cases h)) $$ [Hd Hp HO]
  · isplitr; · iexact H
    isplitl [Hd]; · iexact Hd
    isplitl [Hp] <;> iassumption
  iintro ⟨Hr, Hz, HO⟩
  ihave Hr := hp $$ Hr
  iapply (load_rule c rM (chunkR j) (fun _ => rfl) fullShare (chunkV m ρ (back c (j + 1)) j)) $$ Hr
  iintro Hr
  iapply (load_any_rule c oM (farR c r) (fun _ => rfl)) $$ Ho
  iintro %o Ho
  iapply (store_rule c oM (farR c r) (fun _ => rfl)) $$ Ho
  iintro Ho
  iapply (ret_rule c)
  iapply Hk
  isplitl [Hr]; · iexact Hr
  isplitl [Hz]; · iexact Hz
  isplitl [HO]; · iexact HO
  iexact Ho

/-- A block that arrives as a narrow chunk. -/
theorem farOut4_spec (c : Dev nD) (r : Fin 7) (e : Fin 2) (j : Fin 8) (hj : (e = 0 ∧ j = 5) ∨ (e = 1 ∧ j = 6)) (s : F .f32) (Q : PUnit → sProp 𝕄) :
    iprop(ctx m ρ K ∗ due c (some (.recv, j)) ∗ place c (some (.recv, j)) ∗ ow c [] ∗ has c (oM.slice (farR c r) (fun _ => rfl)))
      ⊢ iprop(((holds c (r4C e) (q4V m ρ (back c (j + 1)) e) ∗ shut c (some (.recv, j)) ∗ ow c []
          ∗ holds c (oM.slice (farR c r) (fun _ => rfl)) (k0_pay66 s (q4V m ρ (back c (j + 1)) e))) -∗ Q ⟨⟩) -∗ run c (farOut4 c r e j s) Q) := by
  have h7 : j ≠ 7 := by rcases hj with ⟨-, rfl⟩ | ⟨-, rfl⟩ <;> decide
  have hw : wt (some (.recv, j)) = N4 := if_pos (by rcases hj with ⟨-, rfl⟩ | ⟨-, rfl⟩ <;> decide)
  have hp : pay (F := F) m ρ c (back c (j + 1)) (some (.recv, j)) ⊢ holds c (r4C e) (q4V m ρ (back c (j + 1)) e) := by
    show landed m ρ c j ⊢ _; unfold landed; rcases hj with ⟨rfl, rfl⟩ | ⟨rfl, rfl⟩
    · rw [if_pos rfl]
    · rw [if_neg (by decide), if_pos rfl]
  unfold farOut4
  iintro ⟨#H, Hd, Hp, HO, Ho⟩ Hk
  simp only [Prog.lift, Prog.bind_op, Prog.bind_ret]
  iapply (wait_rule m ρ K c (back c (j + 1)) (some (.recv, j)) (s := recvS j) (src := q4C e) (dst := r4C e) rfl (if_neg h7) ((credit_r4 e).trans hw.symm) [] (fun _ h => by cases h)) $$ [Hd Hp HO]
  · isplitr; · iexact H
    isplitl [Hd]; · iexact Hd
    isplitl [Hp] <;> iassumption
  iintro ⟨Hr, Hz, HO⟩
  ihave Hr := hp $$ Hr
  iapply (load_rule c r4M (chunk4R e) (fun _ => rfl) fullShare (q4V m ρ (back c (j + 1)) e)) $$ Hr
  iintro Hr
  iapply (load_any_rule c oM (farR c r) (fun _ => rfl)) $$ Ho
  iintro %o Ho
  iapply (store_rule c oM (farR c r) (fun _ => rfl)) $$ Ho
  iintro Ho
  iapply (ret_rule c)
  iapply Hk
  isplitl [Hr]; · iexact Hr
  isplitl [Hz]; · iexact Hz
  isplitl [HO]; · iexact HO
  iexact Ho

/-- A chunk is quantised. -/
theorem quant_spec (c : Dev nD) (j : Fin 8) (e : Fin 2) (i : F .f32) (X : Vec F S1x512x1024 .bf16) (Q : PUnit → sProp 𝕄) :
    iprop(holds c (qC j) X ∗ has c (q4C e))
      ⊢ iprop(((holds c (qC j) X ∗ holds c (q4C e) (k0_pay58 i X)) -∗ Q ⟨⟩) -∗ run c (quant j e i) Q) := by
  unfold quant
  iintro ⟨Hq, Ho⟩ Hk
  simp only [Prog.lift, Prog.bind_op, Prog.bind_ret]
  iapply (load_rule c qM (chunkR j) (fun _ => rfl) fullShare X) $$ Hq
  iintro Hq
  ihave Ho := (show has c (q4C e) ⊢ (has c (q4M.slice (chunk4R e) (fun _ => rfl)) : sProp 𝕄) from BI.Entails.refl _) $$ Ho
  iapply (load_any_rule c q4M (chunk4R e) (fun _ => rfl)) $$ Ho
  iintro %o Ho
  iapply (store_rule c q4M (chunk4R e) (fun _ => rfl)) $$ Ho
  iintro Ho
  iapply (ret_rule c)
  iapply Hk
  isplitl [Hq]; · iexact Hq
  iexact Ho

/-! ## The maxima -/

/-- Re-storing a row at the shape it has changes nothing. -/
theorem pay54_eq (t : Vec F S1x128 .f32) : k0_pay54 t = t := by
  funext i
  unfold k0_pay54
  refine congrArg t ?_
  refine (Shape.reshapeEquiv_reshapeEquiv _ _ i).trans ?_
  exact Shape.reshapeEquiv_self _ i

/-- The device's maximum goes into its outgoing row and into row 0. -/
theorem putMax_spec (c : Dev nD) (a : F .f32) (Q : PUnit → sProp 𝕄) :
    iprop(has c tM ∗ has c (aRow 0))
      ⊢ iprop(((holds c tM (txV a) ∗ holds c (aRow 0) (txV a)) -∗ Q ⟨⟩) -∗ run c (putMax a) Q) := by
  have e₁ : (has c tM : sProp 𝕄) ⊢ has c (tM.slice (Rect.unit (s := S1x128) ![0, 0] S1x128.size inb_S1x128_S1x128_0_0) (fun _ => rfl)) := by
    refine (ownsSat_any (c : Thread nD τ) tM fullShare (Φ := fun _ => True)).trans ?_
    iintro ⟨%X, H⟩
    iapply (has_of_holds c)
    iapply (BIBase.Entails.of_eq (full_eq c tM ![0, 0] inb_S1x128_S1x128_0_0 (fun _ => rfl) fullShare X).symm); iexact H
  unfold putMax
  iintro ⟨Ht, Ha⟩ Hk
  simp only [Prog.lift, Prog.bind_op, Prog.bind_ret]
  ihave Ht := e₁ $$ Ht
  iapply (load_any_rule c tM (Rect.unit (s := S1x128) ![0, 0] S1x128.size inb_S1x128_S1x128_0_0) (fun _ => rfl)) $$ Ht
  iintro %t Ht
  iapply (store_rule c tM (Rect.unit (s := S1x128) ![0, 0] S1x128.size inb_S1x128_S1x128_0_0) (fun _ => rfl)) $$ Ht
  iintro Ht
  iapply (load_rule c tM (Rect.unit (s := S1x128) ![0, 0] S1x128.size inb_S1x128_S1x128_0_0) (fun _ => rfl) fullShare (txV a)) $$ Ht
  iintro Ht
  ihave Ha := (show has c (aRow 0) ⊢ (has c (aM.slice (rowR 0) (fun _ => rfl)) : sProp 𝕄) from BI.Entails.refl _) $$ Ha
  iapply (load_any_rule c aM (rowR 0) (fun _ => rfl)) $$ Ha
  iintro %r Ha
  iapply (store_rule c aM (rowR 0) (fun _ => rfl)) $$ Ha
  iintro Ha
  iapply (ret_rule c)
  iapply Hk
  isplitl [Ht]; · iapply (BIBase.Entails.of_eq (full_eq c tM ![0, 0] inb_S1x128_S1x128_0_0 (fun _ => rfl) fullShare (txV a))); iexact Ht
  rw [pay54_eq]
  iexact Ha

/-- All the maxima are read. -/
theorem readMax_spec (c : Dev nD) (X : Vec F S8x128 .f32) (Q : Vec F S8x128 .f32 → sProp 𝕄) :
    holds c aM X ⊢ iprop((holds c aM X -∗ Q X) -∗ run c readMax Q) := by
  unfold readMax
  iintro Ha Hk
  simp only [Prog.lift]
  ihave Ha := (BIBase.Entails.of_eq (full_eq c aM ![0, 0] inb_S8x128_S8x128_0_0 (fun _ => rfl) fullShare X).symm) $$ Ha
  iapply (load_rule c aM (Rect.unit (s := S8x128) ![0, 0] S8x128.size inb_S8x128_S8x128_0_0) (fun _ => rfl) fullShare X) $$ Ha
  iintro Ha
  iapply (ret_rule c)
  iapply Hk
  iapply (BIBase.Entails.of_eq (full_eq c aM ![0, 0] inb_S8x128_S8x128_0_0 (fun _ => rfl) fullShare X)); iexact Ha

end Cert.QMM

end
-- ==== Proof.Products.lean ====
/-
The first section of the sequence: the eight rounds of products, and the first five chunks leaving as they are done.
-/
module

public import proofs.«01_k».proof.Proof.Steps

@[expose] public section

noncomputable section

namespace Cert.QMM

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Kd → ℕ)

/-- A chunk of unknown contents is its two halves, -/
theorem chunk_cut (c : Dev nD) (j : Fin 8) :
    (has c (qC j) : sProp 𝕄) ⊢ iprop(has c (qM.slice (halfR j 0) (fun _ => rfl)) ∗ has c (qM.slice (halfR j 1) (fun _ => rfl))) := by
  have e (h : Fin 2) : has c ((qC j).slice (partR h) (fun _ => rfl)) ⊢ (has c (qM.slice (halfR j h) (fun _ => rfl)) : sProp 𝕄) := by
    refine (ownsSat_any (c : Thread nD τ) ((qC j).slice (partR h) (fun _ => rfl)) fullShare (Φ := fun _ => True)).trans ?_
    iintro ⟨%X, H⟩
    iapply (has_of_holds c (qM.slice (halfR j h) (fun _ => rfl)) X)
    iapply (BIBase.Entails.of_eq (half_eq c j h fullShare X)); iexact H
  refine (has_cut c (qC j) partR (fun _ _ => rfl) parts_disj parts_cov).trans ?_
  rw [two]
  exact BI.sep_mono (e 0) (e 1)
/-- and two halves at their products are the chunk at its contents. -/
theorem chunk_join (c : Dev nD) (j : Fin 8) :
    iprop(holds c (qM.slice (halfR j 0) (fun _ => rfl)) (qv m ρ c j 0) ∗ holds c (qM.slice (halfR j 1) (fun _ => rfl)) (qv m ρ c j 1))
      ⊢ holds c (qC j) (chunkV m ρ c j) := by
  refine BIBase.Entails.trans ?_ (glue_join c (qC j) partR (fun _ _ => rfl) parts_disj parts_cov fun h => qv m ρ c j h)
  rw [two]
  exact BI.sep_mono (BIBase.Entails.of_eq (half_eq c j 0 fullShare _).symm) (BIBase.Entails.of_eq (half_eq c j 1 fullShare _).symm)

/-- The maximum after a chunk's first half, and after its second. -/
theorem amN_first (c : Dev nD) (j : Fin 8) (n : ℕ) (hn : n = 2 * j.val) : amV (amN m ρ c n) (xv m ρ c) (wL m c j 0) = amN m ρ c (n + 1) := by
  have h₁ : (⟨n / 2 % 8, Nat.mod_lt _ (by decide)⟩ : Fin 8) = j := Fin.ext (by have := j.isLt; show n / 2 % 8 = j.val; omega)
  have h₂ : (⟨n % 2, Nat.mod_lt _ (by decide)⟩ : Fin 2) = 0 := Fin.ext (by show n % 2 = 0; omega)
  show _ = amV (amN m ρ c n) (xv m ρ c) (wL m c ⟨n / 2 % 8, _⟩ ⟨n % 2, _⟩)
  rw [h₁, h₂]
/-- The running maximum after a chunk's second tile. -/
theorem amN_second (c : Dev nD) (j : Fin 8) (n : ℕ) (hn : n = 2 * j.val) : amV (amN m ρ c (n + 1)) (xv m ρ c) (wL m c j 1) = amN m ρ c (n + 2) := by
  have h₁ : (⟨(n + 1) / 2 % 8, Nat.mod_lt _ (by decide)⟩ : Fin 8) = j := Fin.ext (by have := j.isLt; show (n + 1) / 2 % 8 = j.val; omega)
  have h₂ : (⟨(n + 1) % 2, Nat.mod_lt _ (by decide)⟩ : Fin 2) = 1 := Fin.ext (by show (n + 1) % 2 = 1; omega)
  show _ = amV (amN m ρ c (n + 1)) (xv m ρ c) (wL m c ⟨(n + 1) / 2 % 8, _⟩ ⟨(n + 1) % 2, _⟩)
  rw [h₁, h₂]

/-- A round: chunk `j` is made, and the next chunk's first tile is on its way. -/
theorem round_spec (c : Dev nD) (j j' : Fin 8) (n : ℕ) (hn : n = 2 * j.val) (a : F .f32) (ha : a = amN m ρ c n) (l : List (Dev nD × Kd)) (hl : ∀ e ∈ l, 0 < lvK e.2)
    (Q : F .f32 → sProp 𝕄) :
    iprop(ctx m ρ K ∗ slotFly m c j 0 ∗ slotIdle m c 1 ∗ holds c xM (xv m ρ c) ∗ has c (qC j) ∗ ow c l)
      ⊢ iprop(((slotFly m c j' 0 ∗ slotIdle m c 1 ∗ holds c xM (xv m ρ c) ∗ holds c (qC j) (chunkV m ρ c j) ∗ ow c l) -∗ Q (amN m ρ c (n + 2)))
        -∗ run c (round c j j' a) Q) := by
  subst ha
  unfold round
  iintro ⟨#H, Hf, Hi, Hx, Hq, HO⟩ Hk
  ihave Hq := (chunk_cut c j) $$ Hq
  icases Hq with ⟨Hq0, Hq1⟩
  iapply (seq_rule c)
  iapply (startW_spec m c j 1) $$ Hi
  iintro Hf1
  iapply (seq_rule c)
  iapply (gemm_spec m ρ K c j 0 (amN m ρ c n) l hl) $$ [Hf Hx Hq0 HO]
  · iframe Hf Hx Hq0 HO H
  iintro ⟨Hi0, Hx, Hq0, HO⟩
  rw [amN_first m ρ c j n hn]
  iapply (seq_rule c)
  iapply (startW_spec m c j' 0) $$ Hi0
  iintro Hf0
  iapply (gemm_spec m ρ K c j 1 (amN m ρ c (n + 1)) l hl) $$ [Hf1 Hx Hq1 HO]
  · iframe Hf1 Hx Hq1 HO H
  rw [amN_second m ρ c j n hn]
  iintro ⟨Hi1, Hx, Hq1, HO⟩
  iapply Hk
  iframe Hf0 Hi1 Hx HO
  iapply (chunk_join m ρ c j)
  iframe Hq0 Hq1

/-- The last round: no tile follows. -/
theorem roundLast_spec (c : Dev nD) (l : List (Dev nD × Kd)) (hl : ∀ e ∈ l, 0 < lvK e.2) (Q : F .f32 → sProp 𝕄) :
    iprop(ctx m ρ K ∗ slotFly m c 7 0 ∗ slotIdle m c 1 ∗ holds c xM (xv m ρ c) ∗ has c (qC 7) ∗ ow c l)
      ⊢ iprop(((slotIdle m c 0 ∗ slotIdle m c 1 ∗ holds c xM (xv m ρ c) ∗ holds c (qC 7) (chunkV m ρ c 7) ∗ ow c l) -∗ Q (amN m ρ c 16))
        -∗ run c (roundLast c (amN m ρ c 14)) Q) := by
  unfold roundLast
  iintro ⟨#H, Hf, Hi, Hx, Hq, HO⟩ Hk
  ihave Hq := (chunk_cut c 7) $$ Hq
  icases Hq with ⟨Hq0, Hq1⟩
  iapply (seq_rule c)
  iapply (startW_spec m c 7 1) $$ Hi
  iintro Hf1
  iapply (seq_rule c)
  iapply (gemm_spec m ρ K c 7 0 (amN m ρ c 14) l hl) $$ [Hf Hx Hq0 HO]
  · iframe Hf Hx Hq0 HO H
  iintro ⟨Hi0, Hx, Hq0, HO⟩
  rw [amN_first m ρ c 7 14 rfl]
  iapply (gemm_spec m ρ K c 7 1 (amN m ρ c 15) l hl) $$ [Hf1 Hx Hq1 HO]
  · iframe Hf1 Hx Hq1 HO H
  rw [amN_second m ρ c 7 14 rfl]
  iintro ⟨Hi1, Hx, Hq1, HO⟩
  iapply Hk
  iframe Hi0 Hi1 Hx HO
  iapply (chunk_join m ρ c 7)
  iframe Hq0 Hq1

/-- What sending chunk `j` needs beside the chunk: the place for it, and the two tokens. -/
def gear (c : Dev nD) (j : Fin 8) : sProp 𝕄 :=
  iprop(has (fwd c (j + 1)) (rC j) ∗ tok c (c, some (.send, j)) ∗ tok c (fwd c (j + 1), some (.recv, j)))

/-- A round whose chunk is sent at once. -/
theorem roundSend_rule (c d : Dev nD) (j j' : Fin 8) (hj : j < 5) (hd : d = fwd c (j + 1)) (n : ℕ) (hn : n = 2 * j.val) (a : F .f32) (ha : a = amN m ρ c n) (l : List (Dev nD × Kd))
    (hl : ∀ e ∈ (fwd c (j + 1), some (Ch.recv, j)) :: l, 0 < lvK e.2) {α : Type} (k : F .f32 → PP F α) (Q : α → sProp 𝕄) :
    iprop(ctx m ρ K ∗ slotFly m c j 0 ∗ slotIdle m c 1 ∗ holds c xM (xv m ρ c) ∗ has c (qC j) ∗ gear c j ∗ ow c ((fwd c (j + 1), some (.recv, j)) :: l))
      ⊢ iprop(((slotFly m c j' 0 ∗ slotIdle m c 1 ∗ holds c xM (xv m ρ c) ∗ due c (some (.send, j)) ∗ ow c l) -∗ run c (k (amN m ρ c (n + 2))) Q)
        -∗ run c (round c j j' a >>= fun a => sendQ j d >>= fun _ => k a) Q) := by
  unfold gear
  iintro ⟨#H, Hf, Hi, Hx, Hq, ⟨Hl, Ht, Ht'⟩, HO⟩ Hk
  iapply (seq_rule c)
  iapply (round_spec m ρ K c j j' n hn a ha _ hl) $$ [Hf Hi Hx Hq HO]
  · iframe Hf Hi Hx Hq HO H
  iintro ⟨Hf, Hi, Hx, Hq, HO⟩
  iapply (seq_rule c)
  iapply (sendQ_spec m ρ K c d j hj hd l) $$ [Hq Hl Ht Ht' HO]
  · iframe Hq Hl Ht Ht' HO H
  iintro ⟨Hd, HO⟩
  iapply Hk
  iframe Hf Hi Hx Hd HO

/-- The narrow chunks that a device owes are above level 2, -/
theorem lev_N (c : Dev nD) : ∀ e ∈ duesN c, 2 < lvK e.2 := by
  intro e he; simp only [duesN, List.mem_cons, List.mem_nil_iff, or_false] at he; rcases he with rfl | rfl <;> exact (by decide : 2 < 3)
/-- they and the maxima above level 1, -/
theorem lev_A (c : Dev nD) : ∀ e ∈ duesA c, 1 < lvK e.2 := by
  intro e he; simp only [duesA, List.mem_cons] at he
  rcases he with rfl | rfl | rfl | rfl | rfl | rfl | rfl | he
  iterate 7 exact (by decide : 1 < 2)
  exact lt_trans (by decide) (lev_N c e he)
/-- and with them the wide chunks. -/
theorem lev_Q (c : Dev nD) : ∀ e ∈ duesQ c, 1 < lvK e.2 := by
  intro e he; simp only [duesQ, List.mem_cons] at he
  rcases he with rfl | rfl | rfl | rfl | rfl | he
  iterate 5 exact (by decide : 1 < 3)
  exact lev_A c e he

/-- The device that this copy goes to. -/
theorem dev9_eq (c : Dev nD) : (⟨k0_dev9 c, k0_dev9_lt c⟩ : Dev nD) = fwd c (0 + 1) := by revert c; decide +kernel
/-- The device that this copy goes to. -/
theorem dev10_eq (c : Dev nD) : (⟨k0_dev10 c, k0_dev10_lt c⟩ : Dev nD) = fwd c (1 + 1) := by revert c; decide +kernel
/-- The device that this copy goes to. -/
theorem dev11_eq (c : Dev nD) : (⟨k0_dev11 c, k0_dev11_lt c⟩ : Dev nD) = fwd c (2 + 1) := by revert c; decide +kernel
/-- The device that this copy goes to. -/
theorem dev12_eq (c : Dev nD) : (⟨k0_dev12 c, k0_dev12_lt c⟩ : Dev nD) = fwd c (3 + 1) := by revert c; decide +kernel
/-- The device that this copy goes to. -/
theorem dev13_eq (c : Dev nD) : (⟨k0_dev13 c, k0_dev13_lt c⟩ : Dev nD) = fwd c (4 + 1) := by revert c; decide +kernel

/-- The products: five chunks have left, three are kept, the maximum is known. -/
theorem products_spec (c : Dev nD) (Q : F .f32 → sProp 𝕄) :
    iprop(ctx m ρ K ∗ slotIdle m c 0 ∗ slotIdle m c 1 ∗ holds c xM (xv m ρ c) ∗ (bigSep Finset.univ fun j : Fin 8 => has c (qC j))
        ∗ (gear c 0 ∗ gear c 1 ∗ gear c 2 ∗ gear c 3 ∗ gear c 4) ∗ ow c (duesQ c))
      ⊢ iprop(((slotIdle m c 0 ∗ slotIdle m c 1 ∗ holds c xM (xv m ρ c)
            ∗ (holds c (qC 5) (chunkV m ρ c 5) ∗ holds c (qC 6) (chunkV m ρ c 6) ∗ holds c (qC 7) (chunkV m ρ c 7))
            ∗ (due c (some (.send, 0)) ∗ due c (some (.send, 1)) ∗ due c (some (.send, 2)) ∗ due c (some (.send, 3)) ∗ due c (some (.send, 4)))
            ∗ ow c (duesA c)) -∗ Q (amN m ρ c 16))
        -∗ run c (products c) Q) := by
  have hl := fun e he => lt_trans Nat.zero_lt_one (lev_Q c e he)
  unfold products
  rw [eight]
  iintro ⟨#H, Hi0, Hi1, Hx, ⟨Hq0, Hq1, Hq2, Hq3, Hq4, Hq5, Hq6, Hq7⟩, ⟨Hg0, Hg1, Hg2, Hg3, Hg4⟩, HO⟩ Hk
  unfold duesQ at hl ⊢
  iapply (seq_rule c)
  iapply (startW_spec m c 0 0) $$ Hi0
  iintro Hf
  iapply (roundSend_rule m ρ K c _ 0 1 (by decide) (dev9_eq c) 0 rfl _ rfl _ hl) $$ [Hf Hi1 Hx Hq0 Hg0 HO]
  · iframe Hf Hi1 Hx Hq0 Hg0 HO H
  iintro ⟨Hf, Hi1, Hx, Hd0, HO⟩
  replace hl := fun e he => hl e (List.mem_cons_of_mem _ he)
  iapply (roundSend_rule m ρ K c _ 1 2 (by decide) (dev10_eq c) 2 rfl _ rfl _ hl) $$ [Hf Hi1 Hx Hq1 Hg1 HO]
  · iframe Hf Hi1 Hx Hq1 Hg1 HO H
  iintro ⟨Hf, Hi1, Hx, Hd1, HO⟩
  replace hl := fun e he => hl e (List.mem_cons_of_mem _ he)
  iapply (roundSend_rule m ρ K c _ 2 3 (by decide) (dev11_eq c) 4 rfl _ rfl _ hl) $$ [Hf Hi1 Hx Hq2 Hg2 HO]
  · iframe Hf Hi1 Hx Hq2 Hg2 HO H
  iintro ⟨Hf, Hi1, Hx, Hd2, HO⟩
  replace hl := fun e he => hl e (List.mem_cons_of_mem _ he)
  iapply (roundSend_rule m ρ K c _ 3 4 (by decide) (dev12_eq c) 6 rfl _ rfl _ hl) $$ [Hf Hi1 Hx Hq3 Hg3 HO]
  · iframe Hf Hi1 Hx Hq3 Hg3 HO H
  iintro ⟨Hf, Hi1, Hx, Hd3, HO⟩
  replace hl := fun e he => hl e (List.mem_cons_of_mem _ he)
  iapply (roundSend_rule m ρ K c _ 4 5 (by decide) (dev13_eq c) 8 rfl _ rfl _ hl) $$ [Hf Hi1 Hx Hq4 Hg4 HO]
  · iframe Hf Hi1 Hx Hq4 Hg4 HO H
  iintro ⟨Hf, Hi1, Hx, Hd4, HO⟩
  replace hl := fun e he => hl e (List.mem_cons_of_mem _ he)
  iapply (seq_rule c)
  iapply (round_spec m ρ K c 5 6 10 rfl _ rfl _ hl) $$ [Hf Hi1 Hx Hq5 HO]
  · iframe Hf Hi1 Hx Hq5 HO H
  iintro ⟨Hf, Hi1, Hx, Hq5, HO⟩
  iapply (seq_rule c)
  iapply (round_spec m ρ K c 6 7 12 rfl _ rfl _ hl) $$ [Hf Hi1 Hx Hq6 HO]
  · iframe Hf Hi1 Hx Hq6 HO H
  iintro ⟨Hf, Hi1, Hx, Hq6, HO⟩
  iapply (roundLast_spec m ρ K c _ hl) $$ [Hf Hi1 Hx Hq7 HO]
  · iframe Hf Hi1 Hx Hq7 HO H
  iintro ⟨Hi0, Hi1, Hx, Hq7, HO⟩
  iapply Hk
  iframe Hi0 Hi1 Hx HO Hq5 Hq6 Hq7 Hd0 Hd1 Hd2 Hd3 Hd4

end Cert.QMM

end
-- ==== Proof.Tail.lean ====
/-
The other sections of the sequence: the exchange of the maxima, the narrow chunks leaving, the collection of the
result, and the wait for everything sent to have left.
-/
module

public import proofs.«01_k».proof.Proof.Products

@[expose] public section

noncomputable section

namespace Cert.QMM

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Kd → ℕ)

/-- What a wait at a cell that one copy pays needs: its credit and its place. -/
def await (c : Dev nD) (κ : Kd) : sProp 𝕄 := iprop(due c κ ∗ place c κ)
/-- What sending the row of maxima to the `k`-th device on needs: the place for it, and the two tokens. -/
def gearA (c : Dev nD) (k : Fin 8) : sProp 𝕄 :=
  iprop(has (fwd c k) (aRow k) ∗ tok c (c, some (.asend, k)) ∗ tok c (fwd c k, some (.arecv, k)))
/-- What sending the narrow chunk `e` on channel `j` needs. -/
def gear4 (c : Dev nD) (e : Fin 2) (j : Fin 8) : sProp 𝕄 :=
  iprop(has (fwd c (j + 1)) (r4C e) ∗ tok c (c, some (.send, j)) ∗ tok c (fwd c (j + 1), some (.recv, j)))

/-! ## The exchange of the maxima -/

/-- What is left of the row of maxima beside the eight shares. -/
def txRest (c : Dev nD) : sProp 𝕄 := owns (c : Thread nD τ) tM (Transfers.shareDrop fullShare 8) (tx m ρ c)

/-- The row of maxima as eight shares and a rest, -/
theorem tx_split (c : Dev nD) : holds c tM (tx m ρ c) ⊢ iprop(txRest m ρ c ∗ bigSep Finset.univ fun k : Fin 8 => txShare m ρ c k) := by
  unfold txRest txShare
  simp only [owns_whole]
  exact (Transfers.pointsTo_toks fullShare 8).1
/-- and whole again. -/
theorem tx_join (c : Dev nD) : iprop(txRest m ρ c ∗ bigSep Finset.univ fun k : Fin 8 => txShare m ρ c k) ⊢ holds c tM (tx m ρ c) := by
  unfold txRest txShare
  simp only [owns_whole]
  exact (Transfers.pointsTo_toks fullShare 8).2

/-- No place back is the device itself. -/
theorem back_zero (c : Dev nD) : back c 0 = c := by revert c; decide

/-- The device that this copy goes to. -/
theorem dev14_eq (c : Dev nD) : (⟨k0_dev14 c, k0_dev14_lt c⟩ : Dev nD) = fwd c 1 := by revert c; decide +kernel
/-- The device that this copy goes to. -/
theorem dev15_eq (c : Dev nD) : (⟨k0_dev15 c, k0_dev15_lt c⟩ : Dev nD) = fwd c 2 := by revert c; decide +kernel
/-- The device that this copy goes to. -/
theorem dev16_eq (c : Dev nD) : (⟨k0_dev16 c, k0_dev16_lt c⟩ : Dev nD) = fwd c 3 := by revert c; decide +kernel
/-- The device that this copy goes to. -/
theorem dev17_eq (c : Dev nD) : (⟨k0_dev17 c, k0_dev17_lt c⟩ : Dev nD) = fwd c 4 := by revert c; decide +kernel
/-- The device that this copy goes to. -/
theorem dev18_eq (c : Dev nD) : (⟨k0_dev18 c, k0_dev18_lt c⟩ : Dev nD) = fwd c 5 := by revert c; decide +kernel
/-- The device that this copy goes to. -/
theorem dev19_eq (c : Dev nD) : (⟨k0_dev19 c, k0_dev19_lt c⟩ : Dev nD) = fwd c 6 := by revert c; decide +kernel
/-- The device that this copy goes to. -/
theorem dev20_eq (c : Dev nD) : (⟨k0_dev20 c, k0_dev20_lt c⟩ : Dev nD) = fwd c 7 := by revert c; decide +kernel

/-- After the exchange the device holds all eight maxima. -/
theorem exchange_spec (c : Dev nD) (Q : Vec F S8x128 .f32 → sProp 𝕄) :
    iprop(ctx m ρ K ∗ has c tM ∗ has c (aRow 0) ∗ (gearA c 1 ∗ gearA c 2 ∗ gearA c 3 ∗ gearA c 4 ∗ gearA c 5 ∗ gearA c 6 ∗ gearA c 7)
        ∗ (await c (some (.arecv, 1)) ∗ await c (some (.arecv, 2)) ∗ await c (some (.arecv, 3)) ∗ await c (some (.arecv, 4)) ∗ await c (some (.arecv, 5)) ∗ await c (some (.arecv, 6)) ∗ await c (some (.arecv, 7))) ∗ ow c (duesA c))
      ⊢ iprop(((holds c aM (am m ρ c) ∗ txRest m ρ c ∗ txShare m ρ c 0
            ∗ (due c (some (.asend, 1)) ∗ due c (some (.asend, 2)) ∗ due c (some (.asend, 3)) ∗ due c (some (.asend, 4)) ∗ due c (some (.asend, 5)) ∗ due c (some (.asend, 6)) ∗ due c (some (.asend, 7)))
            ∗ (shut c (some (.arecv, 1)) ∗ shut c (some (.arecv, 2)) ∗ shut c (some (.arecv, 3)) ∗ shut c (some (.arecv, 4)) ∗ shut c (some (.arecv, 5)) ∗ shut c (some (.arecv, 6)) ∗ shut c (some (.arecv, 7)))
            ∗ ow c (duesN c)) -∗ Q (am m ρ c))
        -∗ run c (exchange c (amN m ρ c 16)) Q) := by
  have hjoin := glue_join c aM rowR (fun _ _ => rfl) rows_disj rows_cov fun k => tx m ρ (back c k)
  rw [eight, back_zero] at hjoin
  unfold exchange duesA gearA await
  iintro ⟨#H, Ht, Ha, ⟨⟨Hg1, Hg11, Hg21⟩, ⟨Hg2, Hg12, Hg22⟩, ⟨Hg3, Hg13, Hg23⟩, ⟨Hg4, Hg14, Hg24⟩, ⟨Hg5, Hg15, Hg25⟩, ⟨Hg6, Hg16, Hg26⟩, ⟨Hg7, Hg17, Hg27⟩⟩, ⟨⟨Hw1, Hwp1⟩, ⟨Hw2, Hwp2⟩, ⟨Hw3, Hwp3⟩, ⟨Hw4, Hwp4⟩, ⟨Hw5, Hwp5⟩, ⟨Hw6, Hwp6⟩, ⟨Hw7, Hwp7⟩⟩, HO⟩ Hk
  iapply (seq_rule c)
  iapply (putMax_spec c (amN m ρ c 16)) $$ [Ht Ha]
  · iframe Ht Ha
  iintro ⟨Ht, Hr0⟩
  ihave Ht := (show holds c tM (txV (amN m ρ c 16)) ⊢ _ from tx_split m ρ c) $$ Ht
  icases Ht with ⟨HR, Ht⟩
  ihave Ht := (BIBase.Entails.of_eq (eight (Φ := fun k => txShare m ρ c k))) $$ Ht
  icases Ht with ⟨Hs0, Hs1, Hs2, Hs3, Hs4, Hs5, Hs6, Hs7⟩
  iapply (seq_rule c)
  iapply (sendA_spec m ρ K c _ 1 (by decide) (dev14_eq c) _) $$ [Hs1 Hg1 Hg11 Hg21 HO]
  · iframe Hs1 Hg1 Hg11 Hg21 HO H
  iintro ⟨Hd1, HO⟩
  iapply (seq_rule c)
  iapply (sendA_spec m ρ K c _ 2 (by decide) (dev15_eq c) _) $$ [Hs2 Hg2 Hg12 Hg22 HO]
  · iframe Hs2 Hg2 Hg12 Hg22 HO H
  iintro ⟨Hd2, HO⟩
  iapply (seq_rule c)
  iapply (sendA_spec m ρ K c _ 3 (by decide) (dev16_eq c) _) $$ [Hs3 Hg3 Hg13 Hg23 HO]
  · iframe Hs3 Hg3 Hg13 Hg23 HO H
  iintro ⟨Hd3, HO⟩
  iapply (seq_rule c)
  iapply (sendA_spec m ρ K c _ 4 (by decide) (dev17_eq c) _) $$ [Hs4 Hg4 Hg14 Hg24 HO]
  · iframe Hs4 Hg4 Hg14 Hg24 HO H
  iintro ⟨Hd4, HO⟩
  iapply (seq_rule c)
  iapply (sendA_spec m ρ K c _ 5 (by decide) (dev18_eq c) _) $$ [Hs5 Hg5 Hg15 Hg25 HO]
  · iframe Hs5 Hg5 Hg15 Hg25 HO H
  iintro ⟨Hd5, HO⟩
  iapply (seq_rule c)
  iapply (sendA_spec m ρ K c _ 6 (by decide) (dev19_eq c) _) $$ [Hs6 Hg6 Hg16 Hg26 HO]
  · iframe Hs6 Hg6 Hg16 Hg26 HO H
  iintro ⟨Hd6, HO⟩
  iapply (seq_rule c)
  iapply (sendA_spec m ρ K c _ 7 (by decide) (dev20_eq c) _) $$ [Hs7 Hg7 Hg17 Hg27 HO]
  · iframe Hs7 Hg7 Hg17 Hg27 HO H
  iintro ⟨Hd7, HO⟩
  iapply (seq_rule c)
  iapply (waitA_spec m ρ K c 1 (by decide) _ (lev_N c)) $$ [Hw1 Hwp1 HO]
  · iframe Hw1 Hwp1 HO H
  iintro ⟨Hr1, Hz1, HO⟩
  iapply (seq_rule c)
  iapply (waitA_spec m ρ K c 2 (by decide) _ (lev_N c)) $$ [Hw2 Hwp2 HO]
  · iframe Hw2 Hwp2 HO H
  iintro ⟨Hr2, Hz2, HO⟩
  iapply (seq_rule c)
  iapply (waitA_spec m ρ K c 3 (by decide) _ (lev_N c)) $$ [Hw3 Hwp3 HO]
  · iframe Hw3 Hwp3 HO H
  iintro ⟨Hr3, Hz3, HO⟩
  iapply (seq_rule c)
  iapply (waitA_spec m ρ K c 4 (by decide) _ (lev_N c)) $$ [Hw4 Hwp4 HO]
  · iframe Hw4 Hwp4 HO H
  iintro ⟨Hr4, Hz4, HO⟩
  iapply (seq_rule c)
  iapply (waitA_spec m ρ K c 5 (by decide) _ (lev_N c)) $$ [Hw5 Hwp5 HO]
  · iframe Hw5 Hwp5 HO H
  iintro ⟨Hr5, Hz5, HO⟩
  iapply (seq_rule c)
  iapply (waitA_spec m ρ K c 6 (by decide) _ (lev_N c)) $$ [Hw6 Hwp6 HO]
  · iframe Hw6 Hwp6 HO H
  iintro ⟨Hr6, Hz6, HO⟩
  iapply (seq_rule c)
  iapply (waitA_spec m ρ K c 7 (by decide) _ (lev_N c)) $$ [Hw7 Hwp7 HO]
  · iframe Hw7 Hwp7 HO H
  iintro ⟨Hr7, Hz7, HO⟩
  ihave Ha := hjoin $$ [Hr0 Hr1 Hr2 Hr3 Hr4 Hr5 Hr6 Hr7]
  · isplitl [Hr0]; · iexact Hr0
    iframe Hr1 Hr2 Hr3 Hr4 Hr5 Hr6 Hr7
  iapply (readMax_spec c (am m ρ c)) $$ [Ha]
  · iexact Ha
  iintro Ha
  iapply Hk
  iframe Ha HR Hs0 HO Hd1 Hd2 Hd3 Hd4 Hd5 Hd6 Hd7 Hz1 Hz2 Hz3 Hz4 Hz5 Hz6 Hz7

/-! ## The narrow chunks -/

/-- The device that this copy goes to. -/
theorem dev21_eq (c : Dev nD) : (⟨k0_dev21 c, k0_dev21_lt c⟩ : Dev nD) = fwd c (5 + 1) := by revert c; decide +kernel
/-- The device that this copy goes to. -/
theorem dev22_eq (c : Dev nD) : (⟨k0_dev22 c, k0_dev22_lt c⟩ : Dev nD) = fwd c (6 + 1) := by revert c; decide +kernel

/-- The two narrow chunks have left. -/
theorem narrow_spec (c : Dev nD) (Q : PUnit → sProp 𝕄) :
    iprop(ctx m ρ K ∗ holds c (qC 5) (chunkV m ρ c 5) ∗ holds c (qC 6) (chunkV m ρ c 6) ∗ has c (q4C 0) ∗ has c (q4C 1)
        ∗ gear4 c 0 5 ∗ gear4 c 1 6 ∗ ow c (duesN c))
      ⊢ iprop(((holds c (qC 5) (chunkV m ρ c 5) ∗ holds c (qC 6) (chunkV m ρ c 6) ∗ due c (some (.send, 5)) ∗ due c (some (.send, 6)) ∗ ow c []) -∗ Q ⟨⟩)
        -∗ run c (narrow c (inv m ρ c)) Q) := by
  unfold narrow duesN gear4
  iintro ⟨#H, Hq5, Hq6, Hp5, Hp6, ⟨Hl5, Ht5, Hu5⟩, ⟨Hl6, Ht6, Hu6⟩, HO⟩ Hk
  iapply (seq_rule c)
  iapply (quant_spec c 5 0 (inv m ρ c) (chunkV m ρ c 5)) $$ [Hq5 Hp5]
  · iframe Hq5 Hp5
  iintro ⟨Hq5, Hp5⟩
  iapply (seq_rule c)
  iapply (sendQ4_spec m ρ K c _ 0 5 (.inl ⟨rfl, rfl⟩) (dev21_eq c) _) $$ [Hp5 Hl5 Ht5 Hu5 HO]
  · isplitr; · iexact H
    isplitl [Hp5]; · iexact Hp5
    iframe Hl5 Ht5 Hu5; iexact HO
  iintro ⟨Hd5, HO⟩
  iapply (seq_rule c)
  iapply (quant_spec c 6 1 (inv m ρ c) (chunkV m ρ c 6)) $$ [Hq6 Hp6]
  · iframe Hq6 Hp6
  iintro ⟨Hq6, Hp6⟩
  iapply (sendQ4_spec m ρ K c _ 1 6 (.inr ⟨rfl, rfl⟩) (dev22_eq c) _) $$ [Hp6 Hl6 Ht6 Hu6 HO]
  · isplitr; · iexact H
    isplitl [Hp6]; · iexact Hp6
    iframe Hl6 Ht6 Hu6; iexact HO
  iintro ⟨Hd6, HO⟩
  iapply Hk
  iframe Hq5 Hq6 Hd5 Hd6 HO

/-! ## The result -/

omit [FloatOps F] in
/-- A block of the result's rows under two names of its offset. -/
theorem box_holds (c : Dev nD) {off off' : Fin 2 → ℕ} (h : off = off') (i i') (X : S512x1024.Idx → Elt F .f32) :
    (holds c (oM.slice (Rect.unit (s := S4096x1024) off S512x1024.size i) (fun _ => rfl)) X : sProp 𝕄)
      = holds c (oM.slice (Rect.unit (s := S4096x1024) off' S512x1024.size i') (fun _ => rfl)) X := by subst h; rfl
omit [FloatOps F] in
/-- Equal offsets make the same part. -/
theorem box_has (c : Dev nD) {off off' : Fin 2 → ℕ} (h : off = off') (i i') :
    (has c (oM.slice (Rect.unit (s := S4096x1024) off S512x1024.size i) (fun _ => rfl)) : sProp 𝕄)
      = has c (oM.slice (Rect.unit (s := S4096x1024) off' S512x1024.size i') (fun _ => rfl)) := by subst h; rfl

/-- Where the kept chunk's rows start, -/
theorem own_off (c : Dev nD) : k0_off2 c = ![512 * (back c (7 + 1)).val, 0] := by revert c; decide +kernel
/-- and those of received chunk `r`. -/
theorem far_off (c : Dev nD) (r : Fin 7) : k0_off3 c (BitVec.ofNat 32 r.val) = ![512 * (back c (r.castSucc + 1)).val, 0] := by revert c r; decide +kernel

omit [FloatOps F] in
/-- The rows of a received chunk, as the program names them, -/
theorem far_cut (c : Dev nD) (r : Fin 7) (j : Fin 8) (hj : r.castSucc = j) :
    (has c (oM.slice (rowsR c j) (fun _ => rfl)) : sProp 𝕄) ⊢ has c (oM.slice (farR c r) (fun _ => rfl)) := by
  subst hj; exact BIBase.Entails.of_eq (box_has c (far_off c r).symm _ _)
/-- and back, filled in. -/
theorem far_back (c : Dev nD) (r : Fin 7) (j : Fin 8) (hj : r.castSucc = j) (X : Vec F S512x1024 .f32) (hX : blockV m ρ c j = X) :
    holds c (oM.slice (farR c r) (fun _ => rfl)) X ⊢ holds c (oM.slice (rowsR c j) (fun _ => rfl)) (blockV m ρ c j) := by
  subst hj hX; exact BIBase.Entails.of_eq (box_holds c (far_off c r) _ _ _)
omit [FloatOps F] in
/-- The rows of the kept chunk, as the program names them, -/
theorem own_cut (c : Dev nD) : (has c (oM.slice (rowsR c 7) (fun _ => rfl)) : sProp 𝕄) ⊢ has c (oM.slice (ownR c) (fun _ => rfl)) :=
  BIBase.Entails.of_eq (box_has c (own_off c).symm _ _)
/-- and back, filled in. -/
theorem own_back (c : Dev nD) (X : Vec F S512x1024 .f32) (hX : blockV m ρ c 7 = X) :
    holds c (oM.slice (ownR c) (fun _ => rfl)) X ⊢ holds c (oM.slice (rowsR c 7) (fun _ => rfl)) (blockV m ρ c 7) := by
  subst hX; exact BIBase.Entails.of_eq (box_holds c (own_off c) _ _ _)

/-- Eight places back is the device itself. -/
theorem back_eight (c : Dev nD) : back c (7 + 1) = c := by revert c; decide

/-- The result is collected: eight blocks, each at its contents. -/
theorem collect_spec (c : Dev nD) (Q : PUnit → sProp 𝕄) :
    iprop(ctx m ρ K ∗ holds c (qC 7) (chunkV m ρ c 7) ∗ (await c (some (.recv, 0)) ∗ await c (some (.recv, 1)) ∗ await c (some (.recv, 2)) ∗ await c (some (.recv, 3)) ∗ await c (some (.recv, 4)) ∗ await c (some (.recv, 5)) ∗ await c (some (.recv, 6))) ∗ ow c [] ∗ has c oM)
      ⊢ iprop(((holds c (qC 7) (chunkV m ρ c 7)
            ∗ (holds c (rC 0) (chunkV m ρ (back c (0 + 1)) 0) ∗ holds c (rC 1) (chunkV m ρ (back c (1 + 1)) 1) ∗ holds c (rC 2) (chunkV m ρ (back c (2 + 1)) 2) ∗ holds c (rC 3) (chunkV m ρ (back c (3 + 1)) 3) ∗ holds c (rC 4) (chunkV m ρ (back c (4 + 1)) 4))
            ∗ (holds c (r4C 0) (q4V m ρ (back c (5 + 1)) 0) ∗ holds c (r4C 1) (q4V m ρ (back c (6 + 1)) 1))
            ∗ (shut c (some (.recv, 0)) ∗ shut c (some (.recv, 1)) ∗ shut c (some (.recv, 2)) ∗ shut c (some (.recv, 3)) ∗ shut c (some (.recv, 4)) ∗ shut c (some (.recv, 5)) ∗ shut c (some (.recv, 6))) ∗ ow c [] ∗ holds c oM (out m ρ c)) -∗ Q ⟨⟩)
        -∗ run c (collect c (sc m ρ c) (inv m ρ c)) Q) := by
  have hcut := has_cut (F := F) c oM (rowsR c) (fun _ _ => rfl) (out_disj c) (out_cov c)
  rw [eight] at hcut
  have hjoin := glue_join c oM (rowsR c) (fun _ _ => rfl) (out_disj c) (out_cov c) (blockV m ρ c)
  rw [eight] at hjoin
  unfold collect await
  iintro ⟨#H, Hq, ⟨⟨Hw0, Hwp0⟩, ⟨Hw1, Hwp1⟩, ⟨Hw2, Hwp2⟩, ⟨Hw3, Hwp3⟩, ⟨Hw4, Hwp4⟩, ⟨Hw5, Hwp5⟩, ⟨Hw6, Hwp6⟩⟩, HO, Ho⟩ Hk
  ihave Ho := hcut $$ Ho
  icases Ho with ⟨Ho0, Ho1, Ho2, Ho3, Ho4, Ho5, Ho6, Ho7⟩
  ihave Ho0 := (far_cut c 0 0 rfl) $$ Ho0
  ihave Ho1 := (far_cut c 1 1 rfl) $$ Ho1
  ihave Ho2 := (far_cut c 2 2 rfl) $$ Ho2
  ihave Ho3 := (far_cut c 3 3 rfl) $$ Ho3
  ihave Ho4 := (far_cut c 4 4 rfl) $$ Ho4
  ihave Ho5 := (far_cut c 5 5 rfl) $$ Ho5
  ihave Ho6 := (far_cut c 6 6 rfl) $$ Ho6
  ihave Ho7 := (own_cut c) $$ Ho7
  iapply (seq_rule c)
  iapply (ownOut_spec c (sc m ρ c) (inv m ρ c) (chunkV m ρ c 7)) $$ [Hq Ho7]
  · iframe Hq Ho7
  iintro ⟨Hq, Ho7⟩
  ihave Ho7 := (own_back m ρ c _ (by unfold blockV; rw [if_neg (by decide), if_neg (by decide), back_eight])) $$ Ho7
  iapply (seq_rule c)
  iapply (farOut_spec m ρ K c 0 0 (by decide) (sc m ρ c) (inv m ρ c)) $$ [Hw0 Hwp0 HO Ho0]
  · iframe Hw0 Hwp0 HO Ho0 H
  iintro ⟨Hr0, Hz0, HO, Ho0⟩
  ihave Ho0 := (far_back m ρ c 0 0 rfl _ (by unfold blockV; rw [if_neg (by decide), if_neg (by decide)])) $$ Ho0
  iapply (seq_rule c)
  iapply (farOut_spec m ρ K c 1 1 (by decide) (sc m ρ c) (inv m ρ c)) $$ [Hw1 Hwp1 HO Ho1]
  · iframe Hw1 Hwp1 HO Ho1 H
  iintro ⟨Hr1, Hz1, HO, Ho1⟩
  ihave Ho1 := (far_back m ρ c 1 1 rfl _ (by unfold blockV; rw [if_neg (by decide), if_neg (by decide)])) $$ Ho1
  iapply (seq_rule c)
  iapply (farOut_spec m ρ K c 2 2 (by decide) (sc m ρ c) (inv m ρ c)) $$ [Hw2 Hwp2 HO Ho2]
  · iframe Hw2 Hwp2 HO Ho2 H
  iintro ⟨Hr2, Hz2, HO, Ho2⟩
  ihave Ho2 := (far_back m ρ c 2 2 rfl _ (by unfold blockV; rw [if_neg (by decide), if_neg (by decide)])) $$ Ho2
  iapply (seq_rule c)
  iapply (farOut_spec m ρ K c 3 3 (by decide) (sc m ρ c) (inv m ρ c)) $$ [Hw3 Hwp3 HO Ho3]
  · iframe Hw3 Hwp3 HO Ho3 H
  iintro ⟨Hr3, Hz3, HO, Ho3⟩
  ihave Ho3 := (far_back m ρ c 3 3 rfl _ (by unfold blockV; rw [if_neg (by decide), if_neg (by decide)])) $$ Ho3
  iapply (seq_rule c)
  iapply (farOut_spec m ρ K c 4 4 (by decide) (sc m ρ c) (inv m ρ c)) $$ [Hw4 Hwp4 HO Ho4]
  · iframe Hw4 Hwp4 HO Ho4 H
  iintro ⟨Hr4, Hz4, HO, Ho4⟩
  ihave Ho4 := (far_back m ρ c 4 4 rfl _ (by unfold blockV; rw [if_neg (by decide), if_neg (by decide)])) $$ Ho4
  iapply (seq_rule c)
  iapply (farOut4_spec m ρ K c 5 0 5 (.inl ⟨rfl, rfl⟩) (sc m ρ c)) $$ [Hw5 Hwp5 HO Ho5]
  · iframe Hw5 Hwp5 HO Ho5 H
  iintro ⟨Hr5, Hz5, HO, Ho5⟩
  ihave Ho5 := (far_back m ρ c 5 5 rfl _ (by unfold blockV; rw [if_pos rfl])) $$ Ho5
  iapply (farOut4_spec m ρ K c 6 1 6 (.inr ⟨rfl, rfl⟩) (sc m ρ c)) $$ [Hw6 Hwp6 HO Ho6]
  · iframe Hw6 Hwp6 HO Ho6 H
  iintro ⟨Hr6, Hz6, HO, Ho6⟩
  ihave Ho6 := (far_back m ρ c 6 6 rfl _ (by unfold blockV; rw [if_neg (by decide), if_pos rfl])) $$ Ho6
  ihave Ho := hjoin $$ [Ho0 Ho1 Ho2 Ho3 Ho4 Ho5 Ho6 Ho7]
  · iframe Ho0 Ho1 Ho2 Ho3 Ho4 Ho5 Ho6 Ho7
  iapply Hk
  iframe Hq Hr0 Hr1 Hr2 Hr3 Hr4 Hr5 Hr6 Hz0 Hz1 Hz2 Hz3 Hz4 Hz5 Hz6 HO
  iexact Ho

/-! ## The last waits -/

/-- Everything sent has left, and its sources are back. -/
theorem drain_spec (c : Dev nD) (Q : PUnit → sProp 𝕄) :
    iprop(ctx m ρ K ∗ (await c (some (.send, 0)) ∗ await c (some (.send, 1)) ∗ await c (some (.send, 2)) ∗ await c (some (.send, 3)) ∗ await c (some (.send, 4)) ∗ await c (some (.send, 5)) ∗ await c (some (.send, 6))) ∗ (await c (some (.asend, 1)) ∗ await c (some (.asend, 2)) ∗ await c (some (.asend, 3)) ∗ await c (some (.asend, 4)) ∗ await c (some (.asend, 5)) ∗ await c (some (.asend, 6)) ∗ await c (some (.asend, 7))) ∗ ow c [])
      ⊢ iprop((((source m ρ c 0 ∗ source m ρ c 1 ∗ source m ρ c 2 ∗ source m ρ c 3 ∗ source m ρ c 4 ∗ source m ρ c 5 ∗ source m ρ c 6) ∗ (txShare m ρ c 1 ∗ txShare m ρ c 2 ∗ txShare m ρ c 3 ∗ txShare m ρ c 4 ∗ txShare m ρ c 5 ∗ txShare m ρ c 6 ∗ txShare m ρ c 7)
            ∗ (shut c (some (.send, 0)) ∗ shut c (some (.send, 1)) ∗ shut c (some (.send, 2)) ∗ shut c (some (.send, 3)) ∗ shut c (some (.send, 4)) ∗ shut c (some (.send, 5)) ∗ shut c (some (.send, 6))) ∗ (shut c (some (.asend, 1)) ∗ shut c (some (.asend, 2)) ∗ shut c (some (.asend, 3)) ∗ shut c (some (.asend, 4)) ∗ shut c (some (.asend, 5)) ∗ shut c (some (.asend, 6)) ∗ shut c (some (.asend, 7))) ∗ ow c []) -∗ Q ⟨⟩)
        -∗ run c drain Q) := by
  unfold drain await
  iintro ⟨#H, ⟨⟨Ha0, Hap0⟩, ⟨Ha1, Hap1⟩, ⟨Ha2, Hap2⟩, ⟨Ha3, Hap3⟩, ⟨Ha4, Hap4⟩, ⟨Ha5, Hap5⟩, ⟨Ha6, Hap6⟩⟩, ⟨⟨Hb1, Hbp1⟩, ⟨Hb2, Hbp2⟩, ⟨Hb3, Hbp3⟩, ⟨Hb4, Hbp4⟩, ⟨Hb5, Hbp5⟩, ⟨Hb6, Hbp6⟩, ⟨Hb7, Hbp7⟩⟩, HO⟩ Hk
  iapply (seq_rule c)
  iapply (leftQ_spec m ρ K c 0 (by decide)) $$ [Ha0 Hap0 HO]
  · iframe Ha0 Hap0 HO H
  iintro ⟨Hs0, Hz0, HO⟩
  iapply (seq_rule c)
  iapply (leftQ_spec m ρ K c 1 (by decide)) $$ [Ha1 Hap1 HO]
  · iframe Ha1 Hap1 HO H
  iintro ⟨Hs1, Hz1, HO⟩
  iapply (seq_rule c)
  iapply (leftQ_spec m ρ K c 2 (by decide)) $$ [Ha2 Hap2 HO]
  · iframe Ha2 Hap2 HO H
  iintro ⟨Hs2, Hz2, HO⟩
  iapply (seq_rule c)
  iapply (leftQ_spec m ρ K c 3 (by decide)) $$ [Ha3 Hap3 HO]
  · iframe Ha3 Hap3 HO H
  iintro ⟨Hs3, Hz3, HO⟩
  iapply (seq_rule c)
  iapply (leftQ_spec m ρ K c 4 (by decide)) $$ [Ha4 Hap4 HO]
  · iframe Ha4 Hap4 HO H
  iintro ⟨Hs4, Hz4, HO⟩
  iapply (seq_rule c)
  iapply (leftQ4_spec m ρ K c 0 5 (.inl ⟨rfl, rfl⟩)) $$ [Ha5 Hap5 HO]
  · iframe Ha5 Hap5 HO H
  iintro ⟨Hs5, Hz5, HO⟩
  iapply (seq_rule c)
  iapply (leftQ4_spec m ρ K c 1 6 (.inr ⟨rfl, rfl⟩)) $$ [Ha6 Hap6 HO]
  · iframe Ha6 Hap6 HO H
  iintro ⟨Hs6, Hz6, HO⟩
  iapply (seq_rule c)
  iapply (leftA_spec m ρ K c 1 (by decide)) $$ [Hb1 Hbp1 HO]
  · iframe Hb1 Hbp1 HO H
  iintro ⟨Ht1, Hy1, HO⟩
  iapply (seq_rule c)
  iapply (leftA_spec m ρ K c 2 (by decide)) $$ [Hb2 Hbp2 HO]
  · iframe Hb2 Hbp2 HO H
  iintro ⟨Ht2, Hy2, HO⟩
  iapply (seq_rule c)
  iapply (leftA_spec m ρ K c 3 (by decide)) $$ [Hb3 Hbp3 HO]
  · iframe Hb3 Hbp3 HO H
  iintro ⟨Ht3, Hy3, HO⟩
  iapply (seq_rule c)
  iapply (leftA_spec m ρ K c 4 (by decide)) $$ [Hb4 Hbp4 HO]
  · iframe Hb4 Hbp4 HO H
  iintro ⟨Ht4, Hy4, HO⟩
  iapply (seq_rule c)
  iapply (leftA_spec m ρ K c 5 (by decide)) $$ [Hb5 Hbp5 HO]
  · iframe Hb5 Hbp5 HO H
  iintro ⟨Ht5, Hy5, HO⟩
  iapply (seq_rule c)
  iapply (leftA_spec m ρ K c 6 (by decide)) $$ [Hb6 Hbp6 HO]
  · iframe Hb6 Hbp6 HO H
  iintro ⟨Ht6, Hy6, HO⟩
  iapply (leftA_spec m ρ K c 7 (by decide)) $$ [Hb7 Hbp7 HO]
  · iframe Hb7 Hbp7 HO H
  iintro ⟨Ht7, Hy7, HO⟩
  iapply Hk
  iframe Hs0 Hs1 Hs2 Hs3 Hs4 Hs5 Hs6 Ht1 Ht2 Ht3 Ht4 Ht5 Ht6 Ht7 Hz0 Hz1 Hz2 Hz3 Hz4 Hz5 Hz6 Hy1 Hy2 Hy3 Hy4 Hy5 Hy6 Hy7 HO

end Cert.QMM

end
-- ==== Proof.Opening.lean ====
/-
The opening handshake: a device signals the seven others, handing each the places on itself that the other will
copy into, and waits for the seven signals of the others.
-/
module

public import proofs.«01_k».proof.Proof.Tail

@[expose] public section

noncomputable section

namespace Cert.QMM

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Kd → ℕ)

/-! ## The handshake's text -/

/-- A signal to the device `n`, given only under the condition `P`; then `J`. -/
def knock (P : Prop) [Decidable P] (n : P → Dev nD) {α : Type} (J : PP F α) : PP F α :=
  if h : P then (do semSignalWord (n h) barS 1#32; J) else J

/-- The handshake: eight conditional signals and the wait. -/
theorem opening_eq : opening (F := F) = .op .deviceId fun d0 =>
    (knock (k0_cond1 d0 = 1#1) (fun h => ⟨k0_dev1, k0_dev1_lt d0 h⟩)
    (knock (k0_cond2 d0 = 1#1) (fun h => ⟨k0_dev2, k0_dev2_lt d0 h⟩)
    (knock (k0_cond3 d0 = 1#1) (fun h => ⟨k0_dev3, k0_dev3_lt d0 h⟩)
    (knock (k0_cond4 d0 = 1#1) (fun h => ⟨k0_dev4, k0_dev4_lt d0 h⟩)
    (knock (k0_cond5 d0 = 1#1) (fun h => ⟨k0_dev5, k0_dev5_lt d0 h⟩)
    (knock (k0_cond6 d0 = 1#1) (fun h => ⟨k0_dev6, k0_dev6_lt d0 h⟩)
    (knock (k0_cond7 d0 = 1#1) (fun h => ⟨k0_dev7, k0_dev7_lt d0 h⟩)
    (knock (k0_cond8 d0 = 1#1) (fun h => ⟨k0_dev8, k0_dev8_lt d0 h⟩)
    (.op (.semWait barS 7) fun _ => .ret ⟨d0, Scalar.remsi (Scalar.divsi d0.word 1#32) 8#32, Scalar.addi (Scalar.remsi (Scalar.divsi d0.word 1#32) 8#32) 1#32⟩))))))))) := rfl

/-- Device 0 is signalled by all but itself. -/
theorem cond1_iff (c : Dev nD) : k0_cond1 c = 1#1 ↔ c ≠ 0 := by revert c; decide +kernel
/-- Device 1 is signalled by all but itself. -/
theorem cond2_iff (c : Dev nD) : k0_cond2 c = 1#1 ↔ c ≠ 1 := by revert c; decide +kernel
/-- Device 2 is signalled by all but itself. -/
theorem cond3_iff (c : Dev nD) : k0_cond3 c = 1#1 ↔ c ≠ 2 := by revert c; decide +kernel
/-- Device 3 is signalled by all but itself. -/
theorem cond4_iff (c : Dev nD) : k0_cond4 c = 1#1 ↔ c ≠ 3 := by revert c; decide +kernel
/-- Device 4 is signalled by all but itself. -/
theorem cond5_iff (c : Dev nD) : k0_cond5 c = 1#1 ↔ c ≠ 4 := by revert c; decide +kernel
/-- Device 5 is signalled by all but itself. -/
theorem cond6_iff (c : Dev nD) : k0_cond6 c = 1#1 ↔ c ≠ 5 := by revert c; decide +kernel
/-- Device 6 is signalled by all but itself. -/
theorem cond7_iff (c : Dev nD) : k0_cond7 c = 1#1 ↔ c ≠ 6 := by revert c; decide +kernel
/-- Device 7 is signalled by all but itself. -/
theorem cond8_iff (c : Dev nD) : k0_cond8 c = 1#1 ↔ c ≠ 7 := by revert c; decide +kernel

/-! ## One signal -/

/-- What goes with the signal to device `t`: the places on `c` for `t`, and the token. -/
def gift (c t : Dev nD) : sProp 𝕄 := iprop(land c (gap t c - 1) ∗ has c (aRow (gap t c)) ∗ tok c (t, none))
/-- What stays of it: all, if `t` is the device itself. -/
def kept (c t : Dev nD) : sProp 𝕄 := if c = t then gift c t else iprop(emp)

/-- One conditional signal. -/
theorem knock_rule (c t : Dev nD) (P : Prop) [Decidable P] (hP : P ↔ c ≠ t) (n : P → Dev nD) (hn : ∀ h, n h = t)
    (ts : List (Dev nD)) (l : List (Dev nD × Kd)) {α : Type} (J : PP F α) (Q : α → sProp 𝕄) :
    iprop(ctx m ρ K ∗ gift c t ∗ ow c (sigs c (t :: ts) ++ l))
      ⊢ iprop(((kept c t ∗ ow c (sigs c ts ++ l)) -∗ run c J Q) -∗ run c (knock P n J) Q) := by
  unfold knock kept gift
  by_cases h : P
  · have hc : c ≠ t := hP.mp h
    have hs : sigs c (t :: ts) ++ l = (t, none) :: (sigs c ts ++ l) := by
      unfold sigs; rw [List.filter_cons_of_pos (by simpa using hc)]; rfl
    rw [dif_pos h, if_neg hc, hs]
    obtain rfl : n h = t := hn h
    iintro ⟨#H, ⟨Hl, Ha, Ht⟩, HO⟩ Hk
    iapply (signal_rule m ρ K c (n h) (sigs c ts ++ l) hc (fun _ => J) Q) $$ [Hl Ha Ht HO]
    · iframe Hl Ha Ht HO H
    iintro HO
    iapply Hk
    isplitr
    · iempintro
    iexact HO
  · have hc : c = t := by by_contra hc; exact h (hP.mpr hc)
    have hs : sigs c (t :: ts) ++ l = sigs c ts ++ l := by
      unfold sigs; rw [List.filter_cons_of_neg (by simpa using hc)]
    rw [dif_neg h, if_pos hc, hs]
    iintro ⟨#H, Hg, HO⟩ Hk
    iapply Hk
    isplitl [Hg]; · iexact Hg
    iexact HO

/-- Reading the device's number. -/
theorem device_rule (c : Dev nD) {α : Type} (k : Dev nD → PP F α) (Q : α → sProp 𝕄) : run c (k c) Q ⊢ run c (.op .deviceId k) Q := by
  show _ ⊢ wp frame _ _ (.op .deviceId k) Q
  rw [wp_deviceId]

/-! ## The handshake -/

/-- Device `t`'s place number on `c`, as a bijection. -/
def placeOf (c : Dev nD) : Dev nD ≃ Fin 8 where
  toFun t := gap t c - 1
  invFun j := back c (j + 1)
  left_inv t := by revert c t; decide
  right_inv j := by revert c j; decide
/-- Its row number on `c`, as a bijection. -/
def rowOf (c : Dev nD) : Dev nD ≃ Fin 8 where
  toFun t := gap t c
  invFun k := back c k
  left_inv t := back_gap c t
  right_inv k := gap_back c k
/-- The device `k` on from `c`, as an injection. -/
def onward (c : Dev nD) : Fin 8 ↪ Dev nD := ⟨fun k => fwd c k, fun a b h => by have := congrArg (gap c) h; rwa [gap_fwd, gap_fwd] at this⟩

/-- The other devices, by how far on they are. -/
theorem others_eq (c : Dev nD) (Φ : Dev nD → sProp 𝕄) :
    bigSep (Finset.univ.erase c) Φ = iprop(Φ (fwd c 1) ∗ Φ (fwd c 2) ∗ Φ (fwd c 3) ∗ Φ (fwd c 4) ∗ Φ (fwd c 5) ∗ Φ (fwd c 6) ∗ Φ (fwd c 7)) := by
  have h : Finset.univ.erase c = (Finset.univ.erase (0 : Fin 8)).map (onward c) := by revert c; decide
  rw [h, BI.bigSep_map]
  exact bigSep_eq_bigSepL_of_eq ([1, 2, 3, 4, 5, 6, 7] : List (Fin 8)) (by decide) (by decide) (fun k => Φ (onward c k))

/-- All the gifts, from all the places, rows and tokens. -/
theorem gifts_intro (c : Dev nD) :
    iprop((bigSep Finset.univ fun j : Fin 8 => (land c j : sProp 𝕄)) ∗ (bigSep Finset.univ fun k : Fin 8 => has c (aRow k)) ∗ (bigSep Finset.univ fun t : Dev nD => tok c (t, none)))
      ⊢ bigSep Finset.univ fun t : Dev nD => gift c t := by
  rw [BI.bigSep_univ_equiv (placeOf c) (fun j => land c j), BI.bigSep_univ_equiv (rowOf c) (fun k => has c (aRow k))]
  unfold gift
  rw [bigSep_sep', bigSep_sep']
  exact BI.Entails.refl _
/-- Of what stays of them, the device's own. -/
theorem kept_elim (c : Dev nD) : (bigSep Finset.univ fun t : Dev nD => kept c t) ⊢ (gift c c : sProp 𝕄) := by
  have h : (bigSep Finset.univ fun t : Dev nD => kept c t) ⊢ (kept c c : sProp 𝕄) := bigSep_elim (Finset.mem_univ c)
  refine h.trans (BIBase.Entails.of_eq ?_)
  unfold kept; rw [if_pos rfl]

/-- A device has no gap to itself. -/
theorem gap_self (c : Dev nD) : gap c c = 0 := by revert c; decide

/-- After the handshake the device has the places on each other device for what it copies there, and its own. -/
theorem opening_spec (c : Dev nD) (Q : Dev nD → sProp 𝕄) :
    iprop(ctx m ρ K ∗ (bigSep Finset.univ fun j : Fin 8 => land c j) ∗ (bigSep Finset.univ fun k : Fin 8 => has c (aRow k))
        ∗ (bigSep Finset.univ fun t : Dev nD => tok c (t, none)) ∗ credit c none ∗ place c none ∗ ow c (dues c))
      ⊢ iprop((((land c 7 ∗ has c (aRow 0))
            ∗ ((land (fwd c 1) 0 ∗ has (fwd c 1) (aRow 1)) ∗ (land (fwd c 2) 1 ∗ has (fwd c 2) (aRow 2)) ∗ (land (fwd c 3) 2 ∗ has (fwd c 3) (aRow 3)) ∗ (land (fwd c 4) 3 ∗ has (fwd c 4) (aRow 4)) ∗ (land (fwd c 5) 4 ∗ has (fwd c 5) (aRow 5)) ∗ (land (fwd c 6) 5 ∗ has (fwd c 6) (aRow 6)) ∗ (land (fwd c 7) 6 ∗ has (fwd c 7) (aRow 7)))
            ∗ shut c none ∗ ow c (duesQ c)) -∗ Q c)
        -∗ run c (opening (F := F)) (fun p => Q p.1)) := by
  have hsplit := (gifts_intro (F := F) c).trans (BIBase.Entails.of_eq (eight (Φ := fun t : Fin 8 => gift c t)))
  have hkeep := (BIBase.Entails.of_eq (eight (Φ := fun t : Fin 8 => kept (F := F) c t)).symm).trans (kept_elim (F := F) c)
  have hoth := others_eq (F := F) c fun d => iprop(land d (gap c d - 1) ∗ has d (aRow (gap c d)))
  simp only [gap_fwd] at hoth
  unfold dues
  iintro ⟨#H, Hl, Ha, Ht, Hc, Hp, HO⟩ Hk
  ihave Hg := hsplit $$ [Hl Ha Ht]
  · iframe Hl Ha Ht
  icases Hg with ⟨Hg0, Hg1, Hg2, Hg3, Hg4, Hg5, Hg6, Hg7⟩
  rw [opening_eq]
  iapply (device_rule c)
  iapply (knock_rule m ρ K c 0 _ (cond1_iff c) (fun h => ⟨k0_dev1, k0_dev1_lt c h⟩) (fun h => Fin.ext k0_dev1_eq) [1, 2, 3, 4, 5, 6, 7] _ _ _) $$ [Hg0 HO]
  · iframe H Hg0 HO
  iintro ⟨Hg0, HO⟩
  iapply (knock_rule m ρ K c 1 _ (cond2_iff c) (fun h => ⟨k0_dev2, k0_dev2_lt c h⟩) (fun h => Fin.ext k0_dev2_eq) [2, 3, 4, 5, 6, 7] _ _ _) $$ [Hg1 HO]
  · iframe H Hg1 HO
  iintro ⟨Hg1, HO⟩
  iapply (knock_rule m ρ K c 2 _ (cond3_iff c) (fun h => ⟨k0_dev3, k0_dev3_lt c h⟩) (fun h => Fin.ext k0_dev3_eq) [3, 4, 5, 6, 7] _ _ _) $$ [Hg2 HO]
  · iframe H Hg2 HO
  iintro ⟨Hg2, HO⟩
  iapply (knock_rule m ρ K c 3 _ (cond4_iff c) (fun h => ⟨k0_dev4, k0_dev4_lt c h⟩) (fun h => Fin.ext k0_dev4_eq) [4, 5, 6, 7] _ _ _) $$ [Hg3 HO]
  · iframe H Hg3 HO
  iintro ⟨Hg3, HO⟩
  iapply (knock_rule m ρ K c 4 _ (cond5_iff c) (fun h => ⟨k0_dev5, k0_dev5_lt c h⟩) (fun h => Fin.ext k0_dev5_eq) [5, 6, 7] _ _ _) $$ [Hg4 HO]
  · iframe H Hg4 HO
  iintro ⟨Hg4, HO⟩
  iapply (knock_rule m ρ K c 5 _ (cond6_iff c) (fun h => ⟨k0_dev6, k0_dev6_lt c h⟩) (fun h => Fin.ext k0_dev6_eq) [6, 7] _ _ _) $$ [Hg5 HO]
  · iframe H Hg5 HO
  iintro ⟨Hg5, HO⟩
  iapply (knock_rule m ρ K c 6 _ (cond7_iff c) (fun h => ⟨k0_dev7, k0_dev7_lt c h⟩) (fun h => Fin.ext k0_dev7_eq) [7] _ _ _) $$ [Hg6 HO]
  · iframe H Hg6 HO
  iintro ⟨Hg6, HO⟩
  iapply (knock_rule m ρ K c 7 _ (cond8_iff c) (fun h => ⟨k0_dev8, k0_dev8_lt c h⟩) (fun h => Fin.ext k0_dev8_eq) [] _ _ _) $$ [Hg7 HO]
  · iframe H Hg7 HO
  iintro ⟨Hg7, HO⟩
  iapply (barrier_rule m ρ K c (duesQ c) (lev_Q c)) $$ [Hc Hp HO]
  · iframe Hc Hp H; iexact HO
  iintro ⟨Ho, Hz, HO⟩
  ihave Ho := (BIBase.Entails.of_eq hoth) $$ Ho
  ihave Hg := hkeep $$ [Hg0 Hg1 Hg2 Hg3 Hg4 Hg5 Hg6 Hg7]
  · iframe Hg0 Hg1 Hg2 Hg3 Hg4 Hg5 Hg6 Hg7
  unfold gift
  rw [gap_self]
  icases Hg with ⟨Hl, Ha, -⟩
  iapply (ret_rule c)
  iapply Hk
  isplitl [Hl Ha]
  · isplitl [Hl]; · iexact Hl
    iexact Ha
  isplitl [Ho]; · iexact Ho
  iframe Hz HO

end Cert.QMM

end
-- ==== Proof.Whole.lean ====
/-
The whole body: from what a device is launched with to what it ends with.
-/
module

public import proofs.«01_k».proof.Proof.Opening

@[expose] public section

noncomputable section

namespace Cert.QMM

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Kd → ℕ)

/-! ## Families -/

/-- The cells, family by family. -/
def kinds : Unit ⊕ (Fin 8 ⊕ (Fin 8 ⊕ (Fin 8 ⊕ Fin 8))) ≃ Kd where
  toFun
    | .inl _ => none
    | .inr (.inl j) => some (.recv, j)
    | .inr (.inr (.inl j)) => some (.send, j)
    | .inr (.inr (.inr (.inl k))) => some (.arecv, k)
    | .inr (.inr (.inr (.inr k))) => some (.asend, k)
  invFun
    | none => .inl ()
    | some (.recv, j) => .inr (.inl j)
    | some (.send, j) => .inr (.inr (.inl j))
    | some (.arecv, k) => .inr (.inr (.inr (.inl k)))
    | some (.asend, k) => .inr (.inr (.inr (.inr k)))
  left_inv := by rintro (_ | _ | _ | _ | _) <;> rfl
  right_inv := by rintro (_ | ⟨_ | _ | _ | _, _⟩) <;> rfl

omit [FloatOps F] in
/-- All the counters, by their families. -/
theorem families (Φ : Kd → sProp 𝕄) : bigSep Finset.univ Φ = iprop(Φ none ∗ (bigSep Finset.univ fun j : Fin 8 => Φ (some (.recv, j)))
    ∗ (bigSep Finset.univ fun j : Fin 8 => Φ (some (.send, j))) ∗ (bigSep Finset.univ fun k : Fin 8 => Φ (some (.arecv, k)))
    ∗ (bigSep Finset.univ fun k : Fin 8 => Φ (some (.asend, k)))) := by
  rw [BI.bigSep_univ_equiv kinds Φ, BI.bigSep_univ_sum, BI.bigSep_univ_sum, BI.bigSep_univ_sum, BI.bigSep_univ_sum]
  exact congrArg (fun X => iprop(X ∗ _)) ((congrArg (fun s => bigSep s _) (show (Finset.univ : Finset Unit) = {()} from rfl)).trans bigSep_singleton)

/-- The tokens of one device, cell by cell, give those it uses. -/
theorem toks_at (c : Dev nD) (κ : Fin 8 → Kd) (d : Fin 8 → Dev nD) :
    (bigSep Finset.univ fun j : Fin 8 => bigSep Finset.univ fun t : Dev nD => (tok c (t, κ j) : sProp 𝕄)) ⊢ bigSep Finset.univ fun j : Fin 8 => tok c (d j, κ j) :=
  BI.bigSep_mono fun j _ => bigSep_elim (Finset.mem_univ (d j))

/-- The credit of a counter with one payer is one payment due. -/
theorem due_of_credit (c : Dev nD) (κ : Kd) (h : (payers c κ).card = 1) : (credit c κ : sProp 𝕄) ⊢ due c κ := by
  unfold credit; rw [h, one_mul]

/-- What a family of inward cells gives: its credits, at those of them that are paid once. -/
def onward1 (b : Bool) (P : sProp 𝕄) : sProp 𝕄 := if b then P else iprop(emp)
/-- The same for an inward counter's credit. -/
theorem due_in (c : Dev nD) (κ : Kd) (hb : inward κ = true) (h : (payers c κ).card = 1) : onward1 (inward κ) (credit c κ) ⊢ (due c κ : sProp 𝕄) := by
  unfold onward1; rw [if_pos hb]; exact due_of_credit c κ h

/-! ## The two ends -/

/-- The buffers of the region that are its own, at contents of which nothing is said. -/
def spare (c : Dev nD) : sProp 𝕄 := iprop(has c qM ∗ has c bM ∗ has c rM ∗ has c q4M ∗ has c r4M ∗ has c tM ∗ has c aM)

/-- What a device starts the body with. -/
def given (c : Dev nD) : sProp 𝕄 :=
  iprop(spare c ∗ holds c xM (xv m ρ c) ∗ has c oM ∗ (((c : Thread nD τ).loc main_arg1) ↦{fullShare} wv m c)
    ∗ semVal ((c : Thread nD τ), .dma (wS 0)) 0 ∗ semVal ((c : Thread nD τ), .dma (wS 1)) 0
    ∗ (bigSep Finset.univ fun κ : Kd => place c κ)
    ∗ (bigSep Finset.univ fun κ : Kd => bigSep Finset.univ fun d : Dev nD => tok c (d, κ))
    ∗ (bigSep Finset.univ fun κ : Kd => onward1 (inward κ) (credit c κ)) ∗ ow c (dues c))
/-- What it ends the body with. -/
def ended (c : Dev nD) : sProp 𝕄 :=
  iprop(spare c ∗ holds c xM (xv m ρ c) ∗ holds c oM (out m ρ c) ∗ (((c : Thread nD τ).loc main_arg1) ↦{fullShare} wv m c)
    ∗ semVal ((c : Thread nD τ), .dma (wS 0)) 0 ∗ semVal ((c : Thread nD τ), .dma (wS 1)) 0
    ∗ (bigSep Finset.univ fun κ : Kd => shut c κ) ∗ ow c [])

omit [FloatOps F] in
/-- Where chunk `j` lands: a wide chunk in its own slot, -/
theorem land_wide (c : Dev nD) (j : Fin 8) (h : j ≠ 5 ∧ j ≠ 6) : (land c j : sProp 𝕄) = has c (rC j) := by unfold land; rw [if_neg h.1, if_neg h.2]
omit [FloatOps F] in
/-- the first narrow one, -/
theorem land_5 (c : Dev nD) : (land c 5 : sProp 𝕄) = has c (r4C 0) := by unfold land; rw [if_pos rfl]
omit [FloatOps F] in
/-- and the second. -/
theorem land_6 (c : Dev nD) : (land c 6 : sProp 𝕄) = has c (r4C 1) := by unfold land; rw [if_neg (by decide), if_pos rfl]
/-- What a sent chunk gives back: the place it was sent from, wide, -/
theorem source_wide (c : Dev nD) (j : Fin 8) (h : j ≠ 5 ∧ j ≠ 6) : source m ρ c j ⊢ (has c (qC j) : sProp 𝕄) := by
  unfold source; rw [if_neg h.1, if_neg h.2]; exact has_of_holds c _ _
/-- or the first narrow one, -/
theorem source_5 (c : Dev nD) : source m ρ c 5 ⊢ (has c (q4C 0) : sProp 𝕄) := by unfold source; rw [if_pos rfl]; exact has_of_holds c _ _
/-- or the second. -/
theorem source_6 (c : Dev nD) : source m ρ c 6 ⊢ (has c (q4C 1) : sProp 𝕄) := by unfold source; rw [if_neg (by decide), if_pos rfl]; exact has_of_holds c _ _

/-- The weights whole are its two halves. -/
theorem w_halves (c : Dev nD) : (((c : Thread nD τ).loc main_arg1) ↦{fullShare} wv m c : sProp 𝕄)
    ⊣⊢ iprop((((c : Thread nD τ).loc main_arg1) ↦{wq 0} wv m c) ∗ (((c : Thread nD τ).loc main_arg1) ↦{wq 1} wv m c)) := by
  have h := owns_halves (Ix := Unit) (Name := ℕ) (U := UU) (Lvl := ℕ) (c : Thread nD τ) wM fullShare (wv m c)
  simp only [owns_whole] at h
  exact h

/-! ## The body -/

/-- The body, from one end to the other. -/
theorem body_spec (c : Dev nD) (Q : PUnit → sProp 𝕄) :
    iprop(ctx m ρ K ∗ given m ρ c) ⊢ iprop((ended m ρ c -∗ Q ⟨⟩) -∗ run c (opening >>= fun p => rest p.1) Q) := by
  have cutq := (has_cut (F := F) c qM chunkR (fun _ _ => rfl) chunks_disj chunks_cov)
  have cutb := (has_cut (F := F) c bM slotR (fun _ _ => rfl) slots_disj slots_cov).trans (BIBase.Entails.of_eq two)
  have cutr := (has_cut (F := F) c rM chunkR (fun _ _ => rfl) chunks_disj chunks_cov).trans (BIBase.Entails.of_eq eight)
  have cutq4 := (has_cut (F := F) c q4M chunk4R (fun _ _ => rfl) chunks4_disj chunks4_cov).trans (BIBase.Entails.of_eq two)
  have cutr4 := (has_cut (F := F) c r4M chunk4R (fun _ _ => rfl) chunks4_disj chunks4_cov).trans (BIBase.Entails.of_eq two)
  have cuta := has_cut (F := F) c aM rowR (fun _ _ => rfl) rows_disj rows_cov
  have joinq := (BIBase.Entails.of_eq eight.symm).trans (has_join (F := F) c qM chunkR (fun _ _ => rfl) chunks_disj chunks_cov)
  have joinb := (BIBase.Entails.of_eq two.symm).trans (has_join (F := F) c bM slotR (fun _ _ => rfl) slots_disj slots_cov)
  have joinr := (BIBase.Entails.of_eq eight.symm).trans (has_join (F := F) c rM chunkR (fun _ _ => rfl) chunks_disj chunks_cov)
  have joinq4 := (BIBase.Entails.of_eq two.symm).trans (has_join (F := F) c q4M chunk4R (fun _ _ => rfl) chunks4_disj chunks4_cov)
  have joinr4 := (BIBase.Entails.of_eq two.symm).trans (has_join (F := F) c r4M chunk4R (fun _ _ => rfl) chunks4_disj chunks4_cov)
  have landj := (BIBase.Entails.of_eq (eight (Φ := fun j => land (F := F) c j)).symm)
  simp only [land_5, land_6, land_wide c 0 (by decide), land_wide c 1 (by decide), land_wide c 2 (by decide), land_wide c 3 (by decide), land_wide c 4 (by decide), land_wide c 7 (by decide)] at landj
  have txj := BIBase.Entails.of_eq (eight (Φ := fun k => txShare m ρ c k)).symm
  have plc := BIBase.Entails.of_eq (families (F := F) fun κ => place c κ)
  have tks := BIBase.Entails.of_eq (families (F := F) fun κ => bigSep Finset.univ fun d : Dev nD => tok c (d, κ))
  have crd := BIBase.Entails.of_eq (families (F := F) fun κ => onward1 (inward κ) (credit c κ))
  have sht := BIBase.Entails.of_eq (families (F := F) fun κ => shut c κ).symm
  have e8 (κ : Fin 8 → Kd) (Φ : Kd → sProp 𝕄) := BIBase.Entails.of_eq (eight (Φ := fun j => Φ (κ j)))
  have d8 (κ : Fin 8 → Kd) (Φ : Kd → sProp 𝕄) := BIBase.Entails.of_eq (eight (Φ := fun j => Φ (κ j))).symm
  have tr := (toks_at (F := F) c (fun j => some (.recv, j)) fun j => fwd c (j + 1)).trans (BIBase.Entails.of_eq eight)
  have ts := (toks_at (F := F) c (fun j => some (.send, j)) fun _ => c).trans (BIBase.Entails.of_eq eight)
  have ta := (toks_at (F := F) c (fun k => some (.arecv, k)) fun k => fwd c k).trans (BIBase.Entails.of_eq eight)
  have tb := (toks_at (F := F) c (fun k => some (.asend, k)) fun _ => c).trans (BIBase.Entails.of_eq eight)
  iintro ⟨#H, Hin⟩ Hk
  unfold given spare
  icases Hin with ⟨⟨Hq, Hb, Hr, HQ4, HR4, Ht, Ha⟩, Hx, Ho, Hw, Hsem0, Hsem1, Hpl, Htk, Hcr, HO⟩
  ihave Hq := cutq $$ Hq
  ihave Hb := cutb $$ Hb
  icases Hb with ⟨Hb0, Hb1⟩
  ihave Hr := cutr $$ Hr
  icases Hr with ⟨Hr0, Hr1, Hr2, Hr3, Hr4, Hr5, Hr6, Hr7⟩
  ihave HQ4 := cutq4 $$ HQ4
  icases HQ4 with ⟨Hn0, Hn1⟩
  ihave HR4 := cutr4 $$ HR4
  icases HR4 with ⟨Hm0, Hm1⟩
  ihave Ha := cuta $$ Ha
  ihave Hw := (w_halves m c).1 $$ Hw
  icases Hw with ⟨Hw0, Hw1⟩
  ihave Hpl := plc $$ Hpl
  icases Hpl with ⟨Hpz, Hpr, Hps, Hpa, Hpb⟩
  ihave Hpr := (e8 (fun j => some (.recv, j)) fun κ => place c κ) $$ Hpr
  icases Hpr with ⟨Hpr0, Hpr1, Hpr2, Hpr3, Hpr4, Hpr5, Hpr6, Hpr7⟩
  ihave Hps := (e8 (fun j => some (.send, j)) fun κ => place c κ) $$ Hps
  icases Hps with ⟨Hps0, Hps1, Hps2, Hps3, Hps4, Hps5, Hps6, Hps7⟩
  ihave Hpa := (e8 (fun j => some (.arecv, j)) fun κ => place c κ) $$ Hpa
  icases Hpa with ⟨Hpa0, Hpa1, Hpa2, Hpa3, Hpa4, Hpa5, Hpa6, Hpa7⟩
  ihave Hpb := (e8 (fun j => some (.asend, j)) fun κ => place c κ) $$ Hpb
  icases Hpb with ⟨Hpb0, Hpb1, Hpb2, Hpb3, Hpb4, Hpb5, Hpb6, Hpb7⟩
  ihave Htk := tks $$ Htk
  icases Htk with ⟨Htz, Htr, Hts, Hta, Htb⟩
  ihave Htr := tr $$ Htr
  icases Htr with ⟨Htr0, Htr1, Htr2, Htr3, Htr4, Htr5, Htr6, Htr7⟩
  ihave Hts := ts $$ Hts
  icases Hts with ⟨Hts0, Hts1, Hts2, Hts3, Hts4, Hts5, Hts6, Hts7⟩
  ihave Hta := ta $$ Hta
  icases Hta with ⟨Hta0, Hta1, Hta2, Hta3, Hta4, Hta5, Hta6, Hta7⟩
  ihave Htb := tb $$ Htb
  icases Htb with ⟨Htb0, Htb1, Htb2, Htb3, Htb4, Htb5, Htb6, Htb7⟩
  ihave Hcr := crd $$ Hcr
  icases Hcr with ⟨Hcz, Hcr, -, Hca, -⟩
  ihave Hcr := (e8 (fun j => some (.recv, j)) fun κ => onward1 (inward κ) (credit c κ)) $$ Hcr
  icases Hcr with ⟨Hcr0, Hcr1, Hcr2, Hcr3, Hcr4, Hcr5, Hcr6, Hcr7⟩
  ihave Hca := (e8 (fun j => some (.arecv, j)) fun κ => onward1 (inward κ) (credit c κ)) $$ Hca
  icases Hca with ⟨Hca0, Hca1, Hca2, Hca3, Hca4, Hca5, Hca6, Hca7⟩
  ihave Hcr0 := (due_in c (some (.recv, 0)) rfl (by rfl)) $$ Hcr0
  ihave Hcr1 := (due_in c (some (.recv, 1)) rfl (by rfl)) $$ Hcr1
  ihave Hcr2 := (due_in c (some (.recv, 2)) rfl (by rfl)) $$ Hcr2
  ihave Hcr3 := (due_in c (some (.recv, 3)) rfl (by rfl)) $$ Hcr3
  ihave Hcr4 := (due_in c (some (.recv, 4)) rfl (by rfl)) $$ Hcr4
  ihave Hcr5 := (due_in c (some (.recv, 5)) rfl (by rfl)) $$ Hcr5
  ihave Hcr6 := (due_in c (some (.recv, 6)) rfl (by rfl)) $$ Hcr6
  ihave Hca1 := (due_in c (some (.arecv, 1)) rfl (by rfl)) $$ Hca1
  ihave Hca2 := (due_in c (some (.arecv, 2)) rfl (by rfl)) $$ Hca2
  ihave Hca3 := (due_in c (some (.arecv, 3)) rfl (by rfl)) $$ Hca3
  ihave Hca4 := (due_in c (some (.arecv, 4)) rfl (by rfl)) $$ Hca4
  ihave Hca5 := (due_in c (some (.arecv, 5)) rfl (by rfl)) $$ Hca5
  ihave Hca6 := (due_in c (some (.arecv, 6)) rfl (by rfl)) $$ Hca6
  ihave Hca7 := (due_in c (some (.arecv, 7)) rfl (by rfl)) $$ Hca7
  ihave Hcz := (show onward1 (inward none) (credit c none) ⊢ (credit c none : sProp 𝕄) from BI.Entails.refl _) $$ Hcz
  imod (close_idle m ρ K c (some (.recv, 7)) rfl) $$ [Hpr7] with Hzr7
  · iframe Hpr7 H
  imod (close_idle m ρ K c (some (.send, 7)) rfl) $$ [Hps7] with Hzs7
  · iframe Hps7 H
  imod (close_idle m ρ K c (some (.arecv, 0)) rfl) $$ [Hpa0] with Hza0
  · iframe Hpa0 H
  imod (close_idle m ρ K c (some (.asend, 0)) rfl) $$ [Hpb0] with Hzb0
  · iframe Hpb0 H
  iapply (seq_rule c)
  ihave Hl := landj $$ [Hr0 Hr1 Hr2 Hr3 Hr4 Hm0 Hm1 Hr7]
  · isplitl [Hr0]; · iexact Hr0
    isplitl [Hr1]; · iexact Hr1
    isplitl [Hr2]; · iexact Hr2
    isplitl [Hr3]; · iexact Hr3
    isplitl [Hr4]; · iexact Hr4
    isplitl [Hm0]; · iexact Hm0
    isplitl [Hm1]; · iexact Hm1
    iexact Hr7
  iapply (opening_spec m ρ K c (fun d => run c (rest d) Q)) $$ [Hl Ha Htz Hcz Hpz HO]
  · iframe H Hl Ha Htz Hcz Hpz HO
  iintro ⟨⟨Hr7, Ha⟩, ⟨⟨Hl0, Hg1⟩, ⟨Hl1, Hg2⟩, ⟨Hl2, Hg3⟩, ⟨Hl3, Hg4⟩, ⟨Hl4, Hg5⟩, ⟨Hl5, Hg6⟩, ⟨Hl6, Hg7⟩⟩, Hzz, HO⟩
  ihave Hr7 := (BIBase.Entails.of_eq (land_wide c 7 (by decide))) $$ Hr7
  ihave Hl0 := (BIBase.Entails.of_eq (land_wide (fwd c 1) 0 (by decide))) $$ Hl0
  ihave Hl1 := (BIBase.Entails.of_eq (land_wide (fwd c 2) 1 (by decide))) $$ Hl1
  ihave Hl2 := (BIBase.Entails.of_eq (land_wide (fwd c 3) 2 (by decide))) $$ Hl2
  ihave Hl3 := (BIBase.Entails.of_eq (land_wide (fwd c 4) 3 (by decide))) $$ Hl3
  ihave Hl4 := (BIBase.Entails.of_eq (land_wide (fwd c 5) 4 (by decide))) $$ Hl4
  ihave Hl5 := (BIBase.Entails.of_eq (land_5 (fwd c 6))) $$ Hl5
  ihave Hl6 := (BIBase.Entails.of_eq (land_6 (fwd c 7))) $$ Hl6
  unfold rest
  iapply (seq_rule c)
  iapply (products_spec m ρ K c _) $$ [Hb0 Hsem0 Hw0 Hb1 Hsem1 Hw1 Hx Hq Hl0 Hl1 Hl2 Hl3 Hl4 Hts0 Hts1 Hts2 Hts3 Hts4 Htr0 Htr1 Htr2 Htr3 Htr4 HO]
  · isplitr; · iexact H
    isplitl [Hb0 Hsem0 Hw0]
    · unfold slotIdle; iframe Hb0 Hsem0 Hw0
    isplitl [Hb1 Hsem1 Hw1]
    · unfold slotIdle; iframe Hb1 Hsem1 Hw1
    isplitl [Hx]; · iexact Hx
    isplitl [Hq]; · iexact Hq
    isplitr [HO]
    · unfold gear
      isplitl [Hl0 Hts0 Htr0]
      · isplitl [Hl0]; · iexact Hl0
        isplitl [Hts0]; · iexact Hts0
        iexact Htr0
      isplitl [Hl1 Hts1 Htr1]
      · isplitl [Hl1]; · iexact Hl1
        isplitl [Hts1]; · iexact Hts1
        iexact Htr1
      isplitl [Hl2 Hts2 Htr2]
      · isplitl [Hl2]; · iexact Hl2
        isplitl [Hts2]; · iexact Hts2
        iexact Htr2
      isplitl [Hl3 Hts3 Htr3]
      · isplitl [Hl3]; · iexact Hl3
        isplitl [Hts3]; · iexact Hts3
        iexact Htr3
      isplitl [Hl4]; · iexact Hl4
      isplitl [Hts4]; · iexact Hts4
      iexact Htr4
    iexact HO
  iintro ⟨Hi0, Hi1, Hx, ⟨Hq5, Hq6, Hq7⟩, ⟨Hd0, Hd1, Hd2, Hd3, Hd4⟩, HO⟩
  iapply (seq_rule c)
  iapply (exchange_spec m ρ K c _) $$ [Ht Ha Hg1 Hg2 Hg3 Hg4 Hg5 Hg6 Hg7 Htb1 Htb2 Htb3 Htb4 Htb5 Htb6 Htb7 Hta1 Hta2 Hta3 Hta4 Hta5 Hta6 Hta7 Hca1 Hca2 Hca3 Hca4 Hca5 Hca6 Hca7 Hpa1 Hpa2 Hpa3 Hpa4 Hpa5 Hpa6 Hpa7 HO]
  · unfold gearA await
    iframe H Ht Ha Hg1 Hg2 Hg3 Hg4 Hg5 Hg6 Hg7 Htb1 Htb2 Htb3 Htb4 Htb5 Htb6 Htb7 Hta1 Hta2 Hta3 Hta4 Hta5 Hta6 Hta7 Hca1 Hca2 Hca3 Hca4 Hca5 Hca6 Hca7 Hpa1 Hpa2 Hpa3 Hpa4 Hpa5 Hpa6 Hpa7 HO
  iintro ⟨Ha, HR, Hs0, ⟨He1, He2, He3, He4, He5, He6, He7⟩, ⟨Hza1, Hza2, Hza3, Hza4, Hza5, Hza6, Hza7⟩, HO⟩
  iapply (seq_rule c)
  iapply (narrow_spec m ρ K c _) $$ [Hq5 Hq6 Hn0 Hn1 Hl5 Hts5 Htr5 Hl6 Hts6 Htr6 HO]
  · isplitr; · iexact H
    isplitl [Hq5]; · iexact Hq5
    isplitl [Hq6]; · iexact Hq6
    isplitl [Hn0]; · iexact Hn0
    isplitl [Hn1]; · iexact Hn1
    unfold gear4
    isplitl [Hl5 Hts5 Htr5]
    · isplitl [Hl5]; · iexact Hl5
      isplitl [Hts5]; · iexact Hts5
      iexact Htr5
    isplitl [Hl6 Hts6 Htr6]
    · isplitl [Hl6]; · iexact Hl6
      isplitl [Hts6]; · iexact Hts6
      iexact Htr6
    iexact HO
  iintro ⟨Hq5, Hq6, Hd5, Hd6, HO⟩
  iapply (seq_rule c)
  iapply (collect_spec m ρ K c _) $$ [Hq7 Hcr0 Hcr1 Hcr2 Hcr3 Hcr4 Hcr5 Hcr6 Hpr0 Hpr1 Hpr2 Hpr3 Hpr4 Hpr5 Hpr6 HO Ho]
  · unfold await
    iframe H Hq7 Hcr0 Hcr1 Hcr2 Hcr3 Hcr4 Hcr5 Hcr6 Hpr0 Hpr1 Hpr2 Hpr3 Hpr4 Hpr5 Hpr6 HO Ho
  iintro ⟨Hq7, ⟨Hr0, Hr1, Hr2, Hr3, Hr4⟩, ⟨Hm0, Hm1⟩, ⟨Hzr0, Hzr1, Hzr2, Hzr3, Hzr4, Hzr5, Hzr6⟩, HO, Ho⟩
  iapply (drain_spec m ρ K c Q) $$ [Hd0 Hd1 Hd2 Hd3 Hd4 Hd5 Hd6 Hps0 Hps1 Hps2 Hps3 Hps4 Hps5 Hps6 He1 He2 He3 He4 He5 He6 He7 Hpb1 Hpb2 Hpb3 Hpb4 Hpb5 Hpb6 Hpb7 HO]
  · unfold await
    iframe H Hd0 Hd1 Hd2 Hd3 Hd4 Hd5 Hd6 Hps0 Hps1 Hps2 Hps3 Hps4 Hps5 Hps6 He1 He2 He3 He4 He5 He6 He7 Hpb1 Hpb2 Hpb3 Hpb4 Hpb5 Hpb6 Hpb7 HO
  iintro ⟨⟨Hv0, Hv1, Hv2, Hv3, Hv4, Hv5, Hv6⟩, ⟨Hs1, Hs2, Hs3, Hs4, Hs5, Hs6, Hs7⟩, ⟨Hzs0, Hzs1, Hzs2, Hzs3, Hzs4, Hzs5, Hzs6⟩, ⟨Hzb1, Hzb2, Hzb3, Hzb4, Hzb5, Hzb6, Hzb7⟩, HO⟩
  ihave Hv0 := (source_wide m ρ c 0 (by decide)) $$ Hv0
  ihave Hv1 := (source_wide m ρ c 1 (by decide)) $$ Hv1
  ihave Hv2 := (source_wide m ρ c 2 (by decide)) $$ Hv2
  ihave Hv3 := (source_wide m ρ c 3 (by decide)) $$ Hv3
  ihave Hv4 := (source_wide m ρ c 4 (by decide)) $$ Hv4
  ihave Hv5 := (source_5 m ρ c) $$ Hv5
  ihave Hv6 := (source_6 m ρ c) $$ Hv6
  ihave Hq5 := (has_of_holds c (qC 5) _) $$ Hq5
  ihave Hq6 := (has_of_holds c (qC 6) _) $$ Hq6
  ihave Hq7 := (has_of_holds c (qC 7) _) $$ Hq7
  ihave Hr0 := (has_of_holds c (rC 0) _) $$ Hr0
  ihave Hr1 := (has_of_holds c (rC 1) _) $$ Hr1
  ihave Hr2 := (has_of_holds c (rC 2) _) $$ Hr2
  ihave Hr3 := (has_of_holds c (rC 3) _) $$ Hr3
  ihave Hr4 := (has_of_holds c (rC 4) _) $$ Hr4
  ihave Hm0 := (has_of_holds c (r4C 0) _) $$ Hm0
  ihave Hm1 := (has_of_holds c (r4C 1) _) $$ Hm1
  ihave Hq := joinq $$ [Hv0 Hv1 Hv2 Hv3 Hv4 Hq5 Hq6 Hq7]
  · isplitl [Hv0]; · iexact Hv0
    isplitl [Hv1]; · iexact Hv1
    isplitl [Hv2]; · iexact Hv2
    isplitl [Hv3]; · iexact Hv3
    isplitl [Hv4]; · iexact Hv4
    isplitl [Hq5]; · iexact Hq5
    isplitl [Hq6]; · iexact Hq6
    iexact Hq7
  ihave Hr := joinr $$ [Hr0 Hr1 Hr2 Hr3 Hr4 Hr5 Hr6 Hr7]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    iexact Hr7
  ihave HQ4 := joinq4 $$ [Hv5 Hv6]
  · isplitl [Hv5]; · iexact Hv5
    iexact Hv6
  ihave HR4 := joinr4 $$ [Hm0 Hm1]
  · isplitl [Hm0]; · iexact Hm0
    iexact Hm1
  ihave Hs := txj $$ [Hs0 Hs1 Hs2 Hs3 Hs4 Hs5 Hs6 Hs7]
  · iframe Hs0 Hs1 Hs2 Hs3 Hs4 Hs5 Hs6 Hs7
  ihave Ht := (tx_join m ρ c) $$ [HR Hs]
  · iframe HR Hs
  ihave Ht := (has_of_holds c tM _) $$ Ht
  ihave Ha := (has_of_holds c aM _) $$ Ha
  unfold slotIdle
  icases Hi0 with ⟨Hb0, Hsem0, Hw0⟩
  icases Hi1 with ⟨Hb1, Hsem1, Hw1⟩
  ihave Hb := joinb $$ [Hb0 Hb1]
  · isplitl [Hb0]; · iexact Hb0
    iexact Hb1
  ihave Hw := (w_halves m c).2 $$ [Hw0 Hw1]
  · iframe Hw0 Hw1
  ihave Hzr := (d8 (fun j => some (.recv, j)) fun κ => shut c κ) $$ [Hzr0 Hzr1 Hzr2 Hzr3 Hzr4 Hzr5 Hzr6 Hzr7]
  · iframe Hzr0 Hzr1 Hzr2 Hzr3 Hzr4 Hzr5 Hzr6 Hzr7
  ihave Hzs := (d8 (fun j => some (.send, j)) fun κ => shut c κ) $$ [Hzs0 Hzs1 Hzs2 Hzs3 Hzs4 Hzs5 Hzs6 Hzs7]
  · iframe Hzs0 Hzs1 Hzs2 Hzs3 Hzs4 Hzs5 Hzs6 Hzs7
  ihave Hza := (d8 (fun j => some (.arecv, j)) fun κ => shut c κ) $$ [Hza0 Hza1 Hza2 Hza3 Hza4 Hza5 Hza6 Hza7]
  · iframe Hza0 Hza1 Hza2 Hza3 Hza4 Hza5 Hza6 Hza7
  ihave Hzb := (d8 (fun j => some (.asend, j)) fun κ => shut c κ) $$ [Hzb0 Hzb1 Hzb2 Hzb3 Hzb4 Hzb5 Hzb6 Hzb7]
  · iframe Hzb0 Hzb1 Hzb2 Hzb3 Hzb4 Hzb5 Hzb6 Hzb7
  ihave Hz := sht $$ [Hzz Hzr Hzs Hza Hzb]
  · iframe Hzz Hzr Hzs Hza Hzb
  iapply Hk
  unfold ended spare
  iframe Hq Hb Hr HQ4 HR4 Ht Ha Hx Ho Hw Hsem0 Hsem1 Hz HO

end Cert.QMM

end
-- ==== Proof.Launch.lean ====
/-
The launch: what the eight devices are dealt, and the run of the whole mesh.
-/
module

public import proofs.«01_k».proof.Proof.Whole
public import Idealize.ShloMosaic.Lib.Pipeline.Launch
public import Idealize.ShloMosaic.Lib.Pipeline.ValueKit.Geometry
public import Idealize.ShloMosaic.Lib.Pipeline.CollectiveSegs

@[expose] public section

noncomputable section

namespace Cert.QMM

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The copy semaphores that are the region's own -/

/-- Two of the local copies, and the four families. -/
abbrev Ko : Type := Fin 2 ⊕ (Ch × Fin 8)
abbrev osem : Ko → SemLoc sig
  | .inl h => .dma (wS h)
  | .inr p => chsem p

/-- The body's own counters are distinct, and none is a window's. -/
theorem ownSemFacts : Pipeline.OwnSemFacts cfg0.spec osem := by decide +kernel

omit [FloatOps F] in
/-- The body's own counters at zero, one by one. -/
theorem ownSems0_eq (c : Dev nD) : (Pipeline.ownSems0 (Ix := Unit) (Name := ℕ) (U := UU) (Lvl := ℕ) (Val := Elt F) (τ := τ) osem c : sProp 𝕄)
    = iprop((semVal ((c : Thread nD τ), .dma (wS 0)) 0 ∗ semVal ((c : Thread nD τ), .dma (wS 1)) 0)
        ∗ bigSep Finset.univ fun p : Ch × Fin 8 => semVal (kcell (c, some p)) 0) := by
  unfold Pipeline.ownSems0
  rw [BI.bigSep_univ_sum, two]
  rfl
omit [FloatOps F] in
/-- The barrier's is the one that is not. -/
theorem unscopedSems0_eq (c : Dev nD) : (unscopedSems0 c : sProp 𝕄) = semVal (kcell (c, none)) 0 := by
  unfold unscopedSems0
  rw [bigSep_eq_bigSepL_of_eq [SemLoc.reg barS] (by decide +kernel) (by decide)]; rfl

omit [FloatOps F] in
/-- All the cells are the barrier and the families. -/
theorem all_cells (Φ : Kd → sProp 𝕄) : bigSep Finset.univ Φ = iprop(Φ none ∗ bigSep Finset.univ fun p : Ch × Fin 8 => Φ (some p)) := by
  rw [bigSep_univ_at Φ none]
  have h : Finset.univ.erase (none : Kd) = (Finset.univ : Finset (Ch × Fin 8)).map Function.Embedding.some := by decide
  rw [h, BI.bigSep_map]; rfl

/-! ## The ghost state -/

def cells : Finset (GSem nD τ sig) := Finset.univ.map ⟨kcell, kcell_inj⟩
/-- A token for every device at every cell, of which each device is dealt its own. -/
abbrev tokOf (x : Dev nD × (Kd × Dev nD)) : GSem nD τ sig × ℕ × Dev nD := (kcell (x.2.2, x.2.1), 0, x.1)
/-- Different cells have different tokens. -/
theorem tokOf_inj : Function.Injective tokOf := fun a b h => by
  have h1 := kcell_inj (congrArg Prod.fst h)
  have h2 : a.1 = b.1 := congrArg (fun y : GSem nD τ sig × ℕ × Dev nD => y.2.2) h
  exact Prod.ext h2 (Prod.ext (congrArg Prod.snd h1) (congrArg Prod.fst h1))
def toks : Finset (GSem nD τ sig × ℕ × Dev nD) := Finset.univ.map ⟨tokOf, tokOf_inj⟩

def u₀ : UU := (initOf (Pipeline.cells cfgs cellOf_inj) (Pipeline.launchToks cfgs cellOf_inj), (initOf cells toks, (1 : Counters)))

/-- A device's tokens. -/
def dealt (c : Dev nD) : sProp 𝕄 := bigSep Finset.univ fun κ : Kd => bigSep Finset.univ fun p : Dev nD => tok c (p, κ)

/-- What a device is dealt at first, -/
def G (c : Dev nD) : sProp 𝕄 :=
  iprop((bigSep Finset.univ fun κ : Kd => roundState EB (rd m ρ) (kcell (c, κ)) 0)
    ∗ (bigSep Finset.univ fun κ : Kd => reached EB (kcell (c, κ)) 0) ∗ (bigSep Finset.univ fun κ : Kd => place c κ) ∗ dealt c)

/-- the records of all the cells, -/
def records (K : Dev nD × Kd → ℕ) : sProp 𝕄 :=
  bigSep Finset.univ fun e : Dev nD × Kd => iprop(cellInv EB (rd m ρ) (K e) (kcell e) ∗ reached EB (kcell e) 0)
instance records_persistent (K : Dev nD × Kd → ℕ) : BI.Persistent (records (F := F) m ρ K) := by unfold records; infer_instance
/-- what is a device's own, -/
def mine (c : Dev nD) : sProp 𝕄 :=
  iprop((semVal ((c : Thread nD τ), .dma (wS 0)) 0 ∗ semVal ((c : Thread nD τ), .dma (wS 1)) 0) ∗ (bigSep Finset.univ fun κ : Kd => place c κ) ∗ dealt c)
/-- and what it starts from. -/
def G' (c : Dev nD) : sProp 𝕄 := iprop((∃ K, records m ρ K) ∗ mine c)

/-- What is owned of the two algebras at once is owned of each. -/
theorem ownU_split (a : UR sig nD τ) (b : UB) : (ownU ((a, (b, 1)) : UU) : sProp 𝕄) ⊢ iprop(BI.own (EP a) ∗ BI.own (EB b)) :=
  BI.own_op_elim ((uEmb (nD := nD) (τ := τ) (sig := sig) (Ix := Unit) (Val := Elt F) (Name := ℕ) (U := UU) (Lvl := ℕ)).toEmb.op_of_mem
    (Prod.mk_mem_op (URA.mem_op_one a) (URA.mem_one_op (b, (1 : Counters)))))

/-- The start of the ghost state: every cell with its round, its payers' tokens given out. -/
theorem fund : BI.own (EB (initOf cells toks)) ⊢ (|==> bigSep Finset.univ (G m ρ) : sProp 𝕄) := by
  have hX (Φ : GSem nD τ sig → sProp 𝕄) : bigSep cells Φ = bigSep Finset.univ fun c : Dev nD => bigSep Finset.univ fun κ : Kd => Φ (kcell (c, κ)) := by
    unfold cells; rw [BI.bigSep_map, BI.bigSep_univ_prod]; rfl
  have hT : bigSep toks (fun x => (dutyTok EB x.1 x.2.1 x.2.2 : sProp 𝕄)) = bigSep Finset.univ fun c : Dev nD => dealt c := by
    unfold toks; rw [BI.bigSep_map, BI.bigSep_univ_prod]
    exact bigSep_congr fun c _ => by unfold dealt; rw [BI.bigSep_univ_prod]; rfl
  iintro HX
  imod (Rounds.fund EB (rd m ρ) cells toks) $$ HX with ⟨Hst, Hr, Hat, Htok⟩
  imodintro
  ihave Hst := (BIBase.Entails.of_eq (hX fun g => roundState EB (rd m ρ) g 0)) $$ Hst
  ihave Hat := (BIBase.Entails.of_eq (hX fun g => atPos EB g 0 ∅ 0)) $$ Hat
  ihave Hr := (BIBase.Entails.of_eq (hX fun g => reached EB g 0)) $$ Hr
  ihave Htok := (BIBase.Entails.of_eq hT) $$ Htok
  unfold G
  simp only [bigSep_sep']
  iframe Hst Hr Hat Htok

/-- On one device the cells' invariants are made, -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun κ : Kd => iprop(∃ k : ℕ, cellInv EB (rd m ρ) k (kcell (c, κ)) ∗ reached EB (kcell (c, κ)) 0)) ∗ mine c) := by
  have halloc : iprop((bigSep Finset.univ fun κ : Kd => semVal (kcell (c, κ)) 0) ∗ bigSep Finset.univ fun κ : Kd => roundState EB (rd m ρ) (kcell (c, κ)) 0)
      ⊢ (|={Set.univ}=> bigSep Finset.univ fun κ : Kd => iprop(∃ k : ℕ, cellInv EB (rd m ρ) k (kcell (c, κ))) : sProp 𝕄) := by
    rw [← bigSep_sep']
    exact (bigSep_mono fun κ _ => (Rounds.body_intro EB (rd m ρ) (kcell (c, κ))).trans inv_alloc).trans (bigSep_fupd _ _)
  have hwith : iprop((bigSep Finset.univ fun κ : Kd => iprop(∃ k : ℕ, cellInv EB (rd m ρ) k (kcell (c, κ)))) ∗ bigSep Finset.univ fun κ : Kd => reached EB (kcell (c, κ)) 0)
      ⊢ (bigSep Finset.univ fun κ : Kd => iprop(∃ k : ℕ, cellInv EB (rd m ρ) k (kcell (c, κ)) ∗ reached EB (kcell (c, κ)) 0) : sProp 𝕄) := by
    rw [← bigSep_sep']
    refine bigSep_mono fun κ _ => ?_
    show iprop((∃ k : ℕ, cellInv EB (rd m ρ) k (kcell (c, κ))) ∗ reached EB (kcell (c, κ)) 0) ⊢ iprop(∃ k : ℕ, cellInv EB (rd m ρ) k (kcell (c, κ)) ∗ reached EB (kcell (c, κ)) 0)
    iintro ⟨⟨%k, HI⟩, HR⟩
    iexists k; iframe HI HR
  rw [ownSems0_eq, unscopedSems0_eq]
  unfold G mine
  iintro ⟨⟨Hw, Hs⟩, Hb, Hst, Hr, Hp, Ht⟩
  ihave Hv := (BIBase.Entails.of_eq (all_cells (F := F) fun κ => semVal (kcell (c, κ)) 0).symm) $$ [Hs Hb]
  · iframe Hs Hb
  imod halloc $$ [Hv Hst] with Hinv
  · iframe Hv Hst
  ihave Hi := hwith $$ [Hinv Hr]
  · iframe Hinv Hr
  imodintro
  iframe Hi Hw Hp Ht

/-- and given to every device. -/
theorem regroup :
    (bigSep Finset.univ fun c : Dev nD => iprop((bigSep Finset.univ fun κ : Kd => iprop(∃ k : ℕ, cellInv EB (rd m ρ) k (kcell (c, κ)) ∗ reached EB (kcell (c, κ)) 0)) ∗ mine c) : sProp 𝕄)
      ⊢ bigSep Finset.univ (G' m ρ) := by
  rw [bigSep_sep', ← BI.bigSep_univ_prod (fun e : Dev nD × Kd => iprop(∃ k : ℕ, cellInv EB (rd m ρ) k (kcell e) ∗ reached EB (kcell e) 0))]
  iintro ⟨HI, Hm⟩
  ihave HK := (BI.bigSep_exists_pi Finset.univ (fun (e : Dev nD × Kd) (k : ℕ) => (iprop(cellInv EB (rd m ρ) k (kcell e) ∗ reached EB (kcell e) 0) : sProp 𝕄))) $$ HI
  icases HK with ⟨%K, HI⟩
  ihave HI := (show (bigSep Finset.univ fun e : Dev nD × Kd => iprop(cellInv EB (rd m ρ) (K e) (kcell e) ∗ reached EB (kcell e) 0) : sProp 𝕄) ⊢ records m ρ K from BI.Entails.refl _) $$ HI
  icases HI with #HI
  ihave HA := (BI.bigSep_of_persistent (Finset.univ : Finset (Dev nD)) (records m ρ K)) $$ HI
  have hG (c : Dev nD) : iprop(records m ρ K ∗ mine c) ⊢ G' m ρ c := by
    unfold G'
    iintro ⟨H, Hm⟩
    isplitl [H]
    · iexists K; iexact H
    iexact Hm
  iapply ((BIBase.Entails.of_eq (bigSep_sep' (Finset.univ : Finset (Dev nD)) (fun _ => records m ρ K) (fun c => mine c)).symm).trans (bigSep_mono fun c _ => hG c))
  iframe HA Hm

/-- The launch's global step. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

/-- What the launch credits an inward counter with: one payment from each of its payers. -/
theorem launch_at (c : Dev nD) (κ : Kd) (h : inward κ = true) :
    tallyOn (kcell (c, κ)) (launchCredit (Pipeline.owing O₀) 0 (kcell (c, κ))) = (tallyAt (kcell (c, κ)) () ((payers c κ).card * wt κ) : CellTallies nD τ sig Unit) := by
  unfold tallyAt; refine congrArg _ (Finsupp.ext fun u => ?_); cases u
  rw [Pipeline.launchCredit_owing, Finsupp.single_eq_same, owed_sum c κ h]

/-- What the others owe a device's cells, cell by cell. -/
theorem creds (c : Dev nD) : (Pipeline.launchCred O₀ c : sProp 𝕄) ⊢ bigSep Finset.univ fun κ : Kd => onward1 (inward κ) (credit c κ) := by
  unfold Pipeline.launchCred
  refine (BI.bigSep_subset (t := Finset.univ.map ⟨csem, csem_inj⟩) (Finset.subset_univ _)).trans ?_
  rw [BI.bigSep_map]
  refine bigSep_mono fun κ _ => ?_
  show cred (tallyOn (kcell (c, κ)) (launchCredit (Pipeline.owing O₀) 0 (kcell (c, κ)))) ⊢ _
  unfold onward1
  by_cases h : inward κ = true
  · rw [if_pos h, launch_at c κ h]; exact BI.Entails.refl _
  · rw [if_neg h]; iintro -; iempintro

/-! ## The region's proof data -/

/-- What the body is entered with beside its windows, -/
def start (c : Dev nD) : sProp 𝕄 :=
  iprop((∃ K, ctx m ρ K) ∗ mine c ∗ (bigSep Finset.univ fun κ : Kd => onward1 (inward κ) (credit c κ)) ∗ (((c : Thread nD τ).loc main_arg1) ↦{fullShare} wv m c))
def Φ₀ (c : Dev nD) : sProp 𝕄 := iprop(start m ρ c ∗ spare c)
/-- and left with. -/
def Φ₁ (c : Dev nD) : sProp 𝕄 :=
  iprop(spare c ∗ (((c : Thread nD τ).loc main_arg1) ↦{fullShare} wv m c) ∗ (semVal ((c : Thread nD τ), .dma (wS 0)) 0 ∗ semVal ((c : Thread nD τ), .dma (wS 1)) 0)
    ∗ bigSep Finset.univ fun κ : Kd => shut c κ)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xv m ρ c
    | ⟨1, _⟩ => out m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

/-- The window of x is fetched. -/
theorem fetch_x : (cfg0.win (0 : Fin 2)).fetch t0_0 = true := rfl
/-- Both windows hold their arrays whole. -/
theorem share_eq (c : Dev nD) (w : Fin cfg0.W) : (dats m ρ 0 c).share w = fullShare := by unfold Dat.share; split <;> rfl

/-! ## The body, as the region meets it -/

/-- The body does at the one grid step what the launch asks of it. -/
theorem body_obligation (c : Dev nD) : BodyObligation (dats (F := F) m ρ 0 c) (defs₀ (F := F)) 𝒱₀ () Set.univ := fun t => by
  rw [fin_N0 t]
  rw [bigSep_W0, bigSep_W0]
  show iprop(Φ₀ m ρ c ∗ (dats m ρ 0 c).owesAt () t0_0.castSucc
      ∗ (∃ d, holds c xM ((dats m ρ 0 c).before (0 : Fin 2) t0_0 d)) ∗ (∃ d, holds c oM ((dats m ρ 0 c).before (1 : Fin 2) t0_0 d)))
    ⊢ run c (cc0_body (F := F) xM (Memref.isWhole_whole _) wM (Memref.isWhole_whole _) oM (Memref.isWhole_whole _) qM (Memref.isWhole_whole _) bM (Memref.isWhole_whole _) rM (Memref.isWhole_whole _) q4M (Memref.isWhole_whole _) r4M (Memref.isWhole_whole _) tM (Memref.isWhole_whole _) aM (Memref.isWhole_whole _) cc0_scratch7 cc0_scratch8 cc0_scratch9 cc0_scratch10 cc0_scratch11)
        (fun _ => iprop(Φ₁ m c ∗ (dats m ρ 0 c).owesAt () t0_0.succ ∗ holds c xM (xv m ρ c) ∗ holds c oM (out m ρ c)))
  rw [body_eq]
  have hx (d) : (dats m ρ 0 c).before (0 : Fin 2) t0_0 d = xv m ρ c := by unfold Dat.before; rw [if_pos fetch_x]; rfl
  unfold Φ₀ start mine dealt
  iintro ⟨⟨⟨⟨%K, #H⟩, ⟨⟨Hs0, Hs1⟩, Hp, Ht⟩, Hc, Hw⟩, Hsp⟩, Ho, ⟨%d0, Hx⟩, ⟨%d1, Hout⟩⟩
  rw [hx d0]
  unfold Dat.owesAt Pipeline.owesWithin
  icases Ho with ⟨%W, %hW, HO⟩
  rw [show (dats m ρ 0 c).owed t0_0.castSucc = owed (dues c) from rfl, show (dats m ρ 0 c).owed t0_0.succ = owed [] from rfl]
  iapply (body_spec m ρ K c _) $$ [Hs0 Hs1 Hp Ht Hc Hw Hsp Hx Hout HO]
  · isplitr; · iexact H
    unfold given
    isplitl [Hsp]; · iexact Hsp
    isplitl [Hx]; · iexact Hx
    isplitl [Hout]
    · iapply (has_of_holds c oM _); iexact Hout
    iframe Hw Hs0 Hs1 Hp Ht Hc
    unfold ow; iexists W; iexact HO
  unfold ended
  iintro ⟨Hsp, Hx, Hout, Hw, Hs0, Hs1, Hz, HO⟩
  unfold Φ₁
  isplitl [Hsp Hw Hs0 Hs1 Hz]
  · iframe Hsp Hw Hs0 Hs1 Hz
  unfold ow
  icases HO with ⟨%W', HO⟩
  isplitl [HO]
  · iexists W'
    isplitr
    · ipureintro; exact fun _ _ => Or.inl trivial
    iexact HO
  iframe Hx Hout

/-! ## The launch theorem's side conditions -/

/-- A buffer of the region's own. -/
theorem has_whole (c : Dev nD) (b : Ref sig .tc) :
    (has c (Memref.whole b) : sProp 𝕄) ⊣⊢ iprop(∃ f : Buf (Elt F) ((c : Thread nD τ).loc b), ((c : Thread nD τ).loc b) ↦{fullShare} f) := by
  constructor
  · refine (ownsSat_any (c : Thread nD τ) (Memref.whole b) fullShare (Φ := fun _ => True)).trans ?_
    simp only [owns_whole]
    iintro ⟨%f, H⟩; iexists f; iexact H
  · iintro ⟨%f, H⟩
    iapply (has_of_holds c (Memref.whole b) f)
    iapply (BIBase.Entails.of_eq (owns_whole (c : Thread nD τ) b fullShare f).symm)
    iexact H

/-- The buffers that the body may use are the scratch buffers of the call. -/
theorem spare_eq (c : Dev nD) : (spare c : sProp 𝕄) ⊣⊢ Pipeline.scopedRest cfg0.spec c := by
  rw [scopedRest0_eq]
  unfold spare
  constructor
  · iintro ⟨H0, H1, H2, H3, H4, H5, H6⟩
    isplitl [H0]; · iapply (has_whole c cc0_scratch0).1; iexact H0
    isplitl [H1]; · iapply (has_whole c cc0_scratch1).1; iexact H1
    isplitl [H2]; · iapply (has_whole c cc0_scratch2).1; iexact H2
    isplitl [H3]; · iapply (has_whole c cc0_scratch3).1; iexact H3
    isplitl [H4]; · iapply (has_whole c cc0_scratch4).1; iexact H4
    isplitl [H5]; · iapply (has_whole c cc0_scratch5).1; iexact H5
    iapply (has_whole c cc0_scratch6).1; iexact H6
  · iintro ⟨H0, H1, H2, H3, H4, H5, H6⟩
    isplitl [H0]; · iapply (has_whole c cc0_scratch0).2; iexact H0
    isplitl [H1]; · iapply (has_whole c cc0_scratch1).2; iexact H1
    isplitl [H2]; · iapply (has_whole c cc0_scratch2).2; iexact H2
    isplitl [H3]; · iapply (has_whole c cc0_scratch3).2; iexact H3
    isplitl [H4]; · iapply (has_whole c cc0_scratch4).2; iexact H4
    isplitl [H5]; · iapply (has_whole c cc0_scratch5).2; iexact H5
    iapply (has_whole c cc0_scratch6).2; iexact H6

/-- What a device starts the body with, from what the launch hands it. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  have hrest : Pipeline.unscopedRestP Pipeline.Prefetch.none cfg0.spec c (fun b => m ((c : Thread nD τ).loc b)) ⊢ (((c : Thread nD τ).loc main_arg1) ↦{fullShare} wv m c : sProp 𝕄) :=
    (BIBase.Entails.of_eq (Pipeline.unscopedRestP_none ..)).trans (BIBase.Entails.of_eq (unscopedRest0_eq c _))
  iintro ⟨Hw, Hlev, Hcr, -, HG⟩
  ihave Hw := hrest $$ Hw
  ihave Hc := (creds (F := F) c) $$ Hcr
  unfold G' start
  icases HG with ⟨⟨%K, HK⟩, Hm⟩
  imodintro
  isplitl
  · isplitl [HK Hlev]
    · iexists K; unfold ctx
      isplitl [HK]; · unfold records; iexact HK
      iexact Hlev
    iframe Hm Hc Hw
  · iempintro

/-- That, with the scratch buffers, is what the body asks for. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (spare_eq c).2; iexact Hr

/-- What the run leaves a device: the barrier's semaphore and the weights. -/
def left (c : Dev nD) : sProp 𝕄 := iprop(unscopedSems0 c ∗ (((c : Thread nD τ).loc main_arg1) ↦{fullShare} wv m c))

/-- What the body leaves gives back the counters at zero and the scratch buffers. -/
theorem phi1_exit (c : Dev nD) :
    (dats m ρ 0 c).Φ (Fin.last cfg0.N) ⊢ iprop(left m c ∗ Pipeline.ownSems0 osem c ∗ Pipeline.scopedRest cfg0.spec c) := by
  rw [show (dats m ρ 0 c).Φ (Fin.last cfg0.N) = Φ₁ m c from rfl, ownSems0_eq]
  unfold Φ₁ left
  rw [unscopedSems0_eq]
  iintro ⟨Hr, Hw, Hs, Hz⟩
  ihave Hz := (BIBase.Entails.of_eq (all_cells (F := F) fun κ => shut c κ)) $$ Hz
  icases Hz with ⟨Hb, Hz⟩
  isplitl [Hb Hw]
  · iframe Hb Hw
  isplitl [Hs Hz]
  · iframe Hs Hz
  iapply (spare_eq c).1; iexact Hr

/-- The two windows' own semaphores are of no cell. -/
theorem stage_free : ∀ (w : Fin cfg0.W) (s : Fin (cfg0.win w).nbuf) (κ : Kd), csem κ ≠ .dma ((cfg0.win w).sem s)
  | ⟨0, _⟩, ⟨0, _⟩ => (by decide +kernel : ∀ κ : Kd, csem κ ≠ .dma ((cfg0.win (0 : Fin 2)).sem (0 : Fin 1)))
  | ⟨1, _⟩, ⟨0, _⟩ => (by decide +kernel : ∀ κ : Kd, csem κ ≠ .dma ((cfg0.win (1 : Fin 2)).sem (0 : Fin 1)))
/-- The windows' counters are at the lowest level, -/
theorem stage_level (c : Dev nD) (w : Fin cfg0.W) (s : Fin (cfg0.win w).nbuf) : lv ((c : Thread nD τ), .dma ((cfg0.win w).sem s)) () ≤ 0 := by
  unfold lv
  rw [kindOf_none (stage_free w s)]
  exact Nat.le_refl 0
/-- and all that a device owes is above it, -/
theorem dues_level (c : Dev nD) : ∀ e ∈ dues c, 0 < lvK e.2 := by revert c; decide +kernel

/-- so that the windows may be waited for. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait c _ 0 (dues c) (stage_level c w s) (dues_level c)
    · exact mayWait c _ 0 [] (stage_level c w s) (fun e he => absurd he List.not_mem_nil)

/-! ## The run -/

/-- The result array ends holding what the body left in its window. -/
theorem end_out (c : Dev nD) : (dats m ρ 0 c).arrAt (1 : Fin 2) cfg0.N = out m ρ c := by
  refine (dats m ρ 0 c).arrAt_eq_of_after_last (1 : Fin 2) t0_0 (by decide +kernel) _ fun j => ?_
  rfl
/-- The windowed operand is as it was. -/
theorem end_x (c : Dev nD) : (dats m ρ 0 c).arrAt (0 : Fin 2) cfg0.N = m ((c : Thread nD τ).loc main_arg0) := (dats m ρ 0 c).arrAt_in (0 : Fin 2) rfl _

/-- What the final memory holds. -/
def Ends (M : MemSt nD τ sig (Elt F)) : Prop :=
  ∀ c : Dev nD, M.mem ((c : Thread nD τ).loc main_v1) = out m ρ c ∧ M.mem ((c : Thread nD τ).loc main_arg0) = m ((c : Thread nD τ).loc main_arg0)
    ∧ M.mem ((c : Thread nD τ).loc main_arg1) = m ((c : Thread nD τ).loc main_arg1)

/-- What a device is left with, read off in the memory that the run ends in. -/
theorem left_read (c : Dev nD) (s' : Phys nD τ sig (Elt F)) : iprop(left m c ∗ SI s')
    ⊢ |={Set.univ}=> iprop(⌜(∀ sm : SemLoc sig, sm.isScoped .tc = false → s'.mem.sem ((c.tc : Thread nD τ), sm) = 0)
        ∧ s'.mem.mem ((c : Thread nD τ).loc main_arg1) = m ((c : Thread nD τ).loc main_arg1)⌝ ∗ SI s') := by
  unfold left
  iintro ⟨⟨Hu, Hw⟩, HSI⟩
  ihave %hw := (SI_pointsTo_agree (st := s') (ℓ := (c : Thread nD τ).loc main_arg1) (f := wv m c)) $$ [Hw HSI]
  · iframe HSI Hw
  imod (Pipeline.unscopedSems0_read (X := unscopedSems0 c) (c := c) fupd_intro s') $$ [Hu HSI] with ⟨%hs, HSI⟩
  · iframe Hu HSI
  imodintro
  isplitr
  · ipureintro; exact ⟨hs, funext fun i => hw i (Finset.mem_univ _)⟩
  iexact HSI

/-- On eight devices, over any float values and from any memory with the counters at zero: every fair run of the program
    ends, with each device's result as computed, its operands as they were, and every counter back at zero. -/
theorem run_main : θ_run defs (onTc (τ := τ) (main (F := F))) (s₀ m ρ) (fun r => Ends m ρ r.2 ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl) (hbody := body_obligation m ρ) (hne := fun w => by fin_cases w <;> exact Nat.succ_pos _)
    (harr := arr_whole0) (hstage := stage_whole0) (hshare := share_eq m ρ) (hdistinct := winFacts0.arr_inj)
    (O₀ := O₀) (howed₀ := fun _ => rfl) (howedN := fun _ => rfl) (L := L) (lv := lv) (hL := L_of_ne) (hwaits := waits m ρ)
    (G := G m ρ) (G' := G' m ρ) (u₀ := u₀)
    (hu₀ := by
      unfold u₀
      iintro Hu
      ihave H := (ownU_split _ _) $$ Hu
      icases H with ⟨HP, HX⟩
      imod (fund m ρ) $$ HX with HG
      imodintro
      iframe HP HG)
    (hglob := glob m ρ) (hA := fun _ _ => rfl) (hpf := fun _ k => k.elim0)
    (X := start m ρ) (Y := left m) (Z := fun _ => iprop(emp)) (hX := start_intro m ρ) (hin := phi0_intro m ρ) (hout := phi1_exit m ρ)
    (QY := fun c s => (∀ sm : SemLoc sig, sm.isScoped .tc = false → s.sem ((c.tc : Thread nD τ), sm) = 0)
        ∧ s.mem ((c : Thread nD τ).loc main_arg1) = m ((c : Thread nD τ).loc main_arg1))
    (hY := fun c s' => by
      iintro ⟨Hl, -, HSI⟩
      iapply (left_read m c s')
      iframe Hl HSI)
    (hQ := fun _ h hs => ⟨fun c => ⟨((h c).1 (1 : Fin 2)).trans (end_out m ρ c), ((h c).1 (0 : Fin 2)).trans (end_x m ρ c), (h c).2.2.2⟩,
      sem_eq_zero hs fun c => (h c).2.2.1⟩)

end Cert.QMM

end
-- ==== Proof.Frames.lean ====
/-
The three programs end, their operands unchanged and their counters at zero.
-/
module

public import proofs.«01_k».proof.Proof.Launch
public import proofs.«01_k».proof.Defs
public import proofs.«01_k».proof.Proof.Gen.Kernel
public import proofs.«01_k».proof.Proof.Gen.ReferenceIdeal.Frame

@[expose] public section

noncomputable section

namespace Cert.QMM

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel, over any float values. -/
theorem frame_any (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => (h.1 c).2, h.2⟩) (run_main m ρ)
/-- Over the ideal floats. -/
theorem frame_kernelIdeal : Cert.quiescent_KernelIdeal := fun m ρ _ => frame_any (F := Ideal) m ρ
/-- The two printed programs have one text: the same body table, -/
theorem defs0_same : Cert.Kernel.defs₀ (F := F) = Cert.KernelIdeal.defs₀ := by
  unfold Cert.Kernel.defs₀ Cert.KernelIdeal.defs₀
  refine congrArg Defs.onTc (funext fun l => funext fun a => ?_)
  match l, a with
  | 0, (t, s) => rfl
/-- and all their definitions are the same, -/
theorem defs_same : Cert.Kernel.defs (F := F) = Cert.KernelIdeal.defs := congrArg (Pipeline.defs Cert.Kernel.pcfgs) defs0_same
/-- so what is said of the one is said of the kernel as it is compiled. -/
theorem frame_kernel : Cert.quiescent_Kernel := fun m ρ _ => by
  rw [defs_same]
  exact frame_any (F := Bits) m ρ
/-- The reference. -/
theorem frame_reference : Cert.quiescent_ReferenceIdeal := fun m ρ _ => Cert.ReferenceIdeal.Gen.frame m ρ

end Cert.QMM

end
-- ==== Proof.Maxima.lean ====
/-
Maxima over the extended reals, said by their upper bounds, and one quantised element.
-/
module

public import proofs.«01_k».proof.Proof.Contents
public import Idealize.ShloMosaic.Lib.ValueIdx
public import Idealize.ShloMosaic.Lib.ValueLayout
public import Idealize.ShloMosaic.Lib.MatmulPlain

@[expose] public section

noncomputable section

namespace Cert.QMM

open scoped BigOperators
open Cert.KernelIdeal Cert.KernelIdeal.Gen
open Idealize.ShloMosaic
open Idealize.ShloMosaic.TcCoe
open Idealize.ShloMosaic.ValueIdx

/-! ## Constants -/

/-- The words of zero, -/
theorem zero_word : Ideal.ofBits .f32 0x00000000#32 = 0 := by simp [Ideal.ofBits, Ideal.ieee]
/-- of minus infinity, -/
theorem bot_word : Ideal.ofBits .f32 0xFF800000#32 = ⊥ := by simp [Ideal.ofBits, Ideal.ieee]
/-- The largest value of the narrow format. -/
theorem top_word : Ideal.ofBits .f32 0x43E00000#32 = ((448 : ℝ) : EReal) := by
  simp [Ideal.ofBits, Ideal.ieee]
  rw [← EReal.coe_mul]
  norm_num

/-! ## Maxima -/

/-- A maximum over a whole array is at most `B` if every element is. -/
theorem reduce_le {s : Shape} {axes : List (Fin s.rank)} (src : FVec Ideal s .f32) (h : s.Reduces axes S1) (hφ : FKind.Formats .f32)
    (hacc : 0xFF800000#32 = FKind.maximumf.neutral .f32 hφ) (j : S1.Idx) (B : EReal) :
    multiReduction .maximumf axes S1 src 0xFF800000#32 h hφ hacc j ≤ B ↔ ∀ i, src i ≤ B := by
  rw [multiReduction_maximumf_eq_fold]
  show Finset.fold max (Ideal.ofBits .f32 0xFF800000#32) src _ ≤ B ↔ _
  rw [Finset.fold_max_le, bot_word]
  have hd (i) : h.drop i = j := by
    funext a; apply Fin.ext
    have h1 : (h.drop i a).val < S1.size a := (h.drop i a).isLt
    have h2 : (j a).val < S1.size a := (j a).isLt
    have h3 : S1.size a = 1 := by match a with | ⟨0, _⟩ => rfl
    omega
  exact ⟨fun hb i => hb.2 i (Finset.mem_filter.mpr ⟨Finset.mem_univ _, hd i⟩), fun hb => ⟨bot_le, fun i _ => hb i⟩⟩

/-- Recasting an array keeps its bounds. -/
theorem cast_le {s t : Shape} (x : s.Idx → EReal) (h : s.ShapeCasts t) (B : EReal) : (∀ i, shapeCast t x h i ≤ B) ↔ ∀ i, x i ≤ B := by
  unfold shapeCast
  exact (Shape.reshapeEquiv h).forall_congr_right (q := fun i => x i ≤ B)

/-- The maximum of all the rows, by its bounds. -/
theorem pay55_le (a : Vec Ideal S8x128 .f32) (B : EReal) : k0_pay55 a ≤ B ↔ ∀ i, a i ≤ B := by
  unfold k0_pay55 extractAt
  rw [← cast_le a shapeCasts_S8x128_S1x8x128]
  exact reduce_le _ _ _ _ _ B
/-- The running maximum after a tile, by its bounds. -/
theorem amV_le (a : EReal) (x : Vec Ideal S512x4096 .f32) (w : Vec Ideal S1x4096x512 .f32) (B : EReal) :
    amV (F := Ideal) a x w ≤ B ↔ a ≤ B ∧ ∀ i, k0_pay5 (F := Ideal) x w i ≤ B := by
  unfold amV k0_pay7 extractAt
  rw [← cast_le (k0_pay5 (F := Ideal) x w) shapeCasts_S512x512_S1x512x512]
  exact max_le_iff.trans (and_congr_right fun _ => reduce_le _ _ _ _ _ B)

/-! ## One element

The reference divides by the scale; the kernel multiplies by the inverse scale, which it takes to be zero when the
maximum is. -/

/-- The kernel's element, -/
def elemK (g r : EReal) : EReal := min (r * (if 0 < g then Ideal.div ((448 : ℝ) : EReal) g else 0)) ((448 : ℝ) : EReal) * Ideal.div g ((448 : ℝ) : EReal)
/-- the reference's, -/
def elemR (g r : EReal) : EReal := min (Ideal.div r (Ideal.div g ((448 : ℝ) : EReal))) ((448 : ℝ) : EReal) * Ideal.div g ((448 : ℝ) : EReal)

/-- The largest float8 isn't zero. -/
theorem c448_ne : ((448 : ℝ) : EReal) ≠ 0 := by
  intro h; have := EReal.coe_eq_zero.mp h; norm_num at this

/-- and the two agree on what is between zero and the maximum. -/
theorem elem_eq (g r : EReal) (hr : 0 ≤ r) (hg : r ≤ g) : elemK g r = elemR g r := by
  unfold elemK elemR
  rcases eq_or_lt_of_le (hr.trans hg) with h | h
  · subst h
    have hz : Ideal.div 0 ((448 : ℝ) : EReal) = 0 := by unfold Ideal.div; rw [if_neg c448_ne, zero_mul]
    rw [hz, mul_zero, mul_zero]
  · congr 2
    rw [if_pos h]
    have hs : Ideal.div g ((448 : ℝ) : EReal) = g * ((448 : ℝ) : EReal)⁻¹ := by unfold Ideal.div; rw [if_neg c448_ne]
    have hne : g * ((448 : ℝ) : EReal)⁻¹ ≠ 0 := by
      refine mul_ne_zero h.ne' ?_
      rw [← EReal.coe_inv]
      intro h'; have := EReal.coe_eq_zero.mp h'; norm_num at this
    rw [hs]
    unfold Ideal.div
    rw [if_neg hne, if_neg h.ne', EReal.mul_inv, ← EReal.coe_inv, ← EReal.coe_inv, inv_inv, mul_comm g⁻¹]

end Cert.QMM

end
-- ==== Proof.Elements.lean ====
/-
The kernel's result and the reference's, element by element, at the ideal floats.
-/
module

public import proofs.«01_k».proof.Proof.Maxima
public import proofs.«01_k».proof.Proof.Gen.ReferenceIdeal.Skeleton

@[expose] public section

noncomputable section

namespace Cert.QMM

open scoped BigOperators
open Cert.KernelIdeal Cert.KernelIdeal.Gen
open Idealize.ShloMosaic
open Idealize.ShloMosaic.TcCoe
open Idealize.ShloMosaic.ValueIdx

/-! ## The whole product, and where a device's tiles lie in it -/

/-- The product of the whole operands. -/
def prodY (X : FVec Ideal ⟨2, ![4096, 4096]⟩ .f32) (W : FVec Ideal ⟨2, ![4096, 8192]⟩ .f32) (a : Fin 4096) (b : Fin 8192) : EReal :=
  ∑ k : Fin 4096, X (ix2 a k) * W (ix2 k b)

/-- Row `p` of device `s`'s block, among all the rows. -/
def lineOf (s : Dev nD) (p : Fin 512) : Fin 4096 := ⟨512 * s.val + p.val, by have h : s.val < 8 := s.isLt; omega⟩
/-- Column `b` of device `d`'s block, among all the columns. -/
def colOf (d : Dev nD) (b : Fin 1024) : Fin 8192 := ⟨1024 * d.val + b.val, by have h : d.val < 8 := d.isLt; omega⟩
/-- Column `q` of half `h`, within a block. -/
def halfCol (h : Fin 2) (q : Fin 512) : Fin 1024 := ⟨512 * h.val + q.val, by omega⟩

/-- Every row is a row of some device's block, -/
theorem exists_line (a : Fin 4096) : ∃ s p, lineOf s p = a :=
  ⟨⟨a.val / 512, by show _ < 8; omega⟩, ⟨a.val % 512, by omega⟩, Fin.ext (by show 512 * (a.val / 512) + a.val % 512 = a.val; omega)⟩
/-- every column is a column of some device's block, -/
theorem exists_col (b : Fin 8192) : ∃ d e, colOf d e = b :=
  ⟨⟨b.val / 1024, by show _ < 8; omega⟩, ⟨b.val % 1024, by omega⟩, Fin.ext (by show 1024 * (b.val / 1024) + b.val % 1024 = b.val; omega)⟩
/-- and every column of a block lies in one of its halves. -/
theorem exists_half (e : Fin 1024) : ∃ h q, halfCol h q = e :=
  ⟨⟨e.val / 512, by omega⟩, ⟨e.val % 512, by omega⟩, Fin.ext (by show 512 * (e.val / 512) + e.val % 512 = e.val; omega)⟩
/-- Every device is some number of places on. -/
theorem exists_fwd (s d : Dev nD) : ∃ j : Fin 8, fwd s (j + 1) = d := by revert s d; decide +kernel
/-- back, -/
theorem exists_back (c s : Dev nD) : ∃ j : Fin 8, back c (j + 1) = s := by revert c s; decide +kernel
/-- and back, from none on. -/
theorem exists_row (c s : Dev nD) : ∃ k : Fin 8, back c k = s := by revert c s; decide +kernel

/-- Where a weight tile starts. -/
theorem tile_off (c : Dev nD) (j : Fin 8) (h : Fin 2) :
    k0_off1 c (BitVec.ofNat 32 j.val) (BitVec.ofNat 32 (512 * h.val)) = ![0, 1024 * (fwd c (j + 1)).val + 512 * h.val] := by
  revert c j h; decide +kernel

variable (m : (ℓ : Loc nD τ sig) → Buf (Elt Ideal) ℓ) (ρ : Dev nD → PrngReg)
variable (X : FVec Ideal ⟨2, ![4096, 4096]⟩ .f32) (W : FVec Ideal ⟨2, ![4096, 8192]⟩ .f32)

/-- The devices hold their rows of `X`, and each the whole of `W`. -/
structure Holds : Prop where
  x : ∀ (c : Dev nD) (p : Fin 512) (k : Fin 4096), xv m ρ c (ix2 p k) = X (ix2 (lineOf c p) k)
  w : ∀ c : Dev nD, wv m c = W

variable {m ρ X W}
variable (H : Holds m ρ X W)
include H

/-- An element of a weight tile. -/
theorem tile_w (c : Dev nD) (j : Fin 8) (h : Fin 2) (k : Fin 4096) (q : Fin 512) :
    wT m c j h (ix2 k q) = W (ix2 k (colOf (fwd c (j + 1)) (halfCol h q))) := by
  unfold wT
  rw [H.w c]
  show W ((tileR c j h).emb (ix2 k q)) = _
  congr 1
  funext a; apply Fin.ext
  rw [Rect.emb_apply]
  show k0_off1 c (BitVec.ofNat 32 j.val) (BitVec.ofNat 32 (512 * h.val)) a + 1 * _ = _
  rw [tile_off]
  match a with
  | ⟨0, _⟩ => show 0 + 1 * k.val = k.val; omega
  | ⟨1, _⟩ => show 1024 * (fwd c (j + 1)).val + 512 * h.val + 1 * q.val = 1024 * (fwd c (j + 1)).val + (512 * h.val + q.val); omega

/-- An element of a product tile. -/
theorem tile_y (c : Dev nD) (j : Fin 8) (h : Fin 2) (p q : Fin 512) :
    k0_pay5 (F := Ideal) (xv m ρ c) (wL m c j h) (ix2 p q) = prodY X W (lineOf c p) (colOf (fwd c (j + 1)) (halfCol h q)) := by
  have hw : shapeCast S4096x512 (wL m c j h) shapeCasts_S1x4096x512_S4096x512 = wT m c j h := by
    funext i; unfold shapeCast wL; exact congrArg _ (Equiv.symm_apply_apply _ i)
  unfold k0_pay5
  rw [shapeCast_self, hw]
  show FloatOps.matmul (DotDims.plain 512 4096 512) none (truncf (F := Ideal) .bf16 (xv m ρ c) bitsLt_bf16_f32) (truncf (F := Ideal) .bf16 (wT m c j h) bitsLt_bf16_f32)
    (constant S512x512 .f32 0x00000000#32) (ix2 p q) = _
  rw [Ideal.matmul_plain_apply, constant_apply, zero_word, zero_add]
  refine Finset.sum_congr rfl fun k _ => ?_
  rw [truncf_apply, truncf_apply, H.x, tile_w H]

/-- An element of a chunk. -/
theorem chunk_y (c : Dev nD) (j : Fin 8) (p : Fin 512) (b : Fin 1024) :
    chunkV m ρ c j (ix3 (0 : Fin 1) p b) = prodY X W (lineOf c p) (colOf (fwd c (j + 1)) b) := by
  obtain ⟨h, q, rfl⟩ := exists_half b
  have e : (ix3 (0 : Fin 1) p (halfCol h q) : S1x512x1024.Idx) = (partR h).emb (ix3 (0 : Fin 1) p q : S1x512x512.Idx) := by
    funext a; apply Fin.ext
    rw [Rect.emb_apply]
    match a with
    | ⟨0, _⟩ => rfl
    | ⟨1, _⟩ => show p.val = 0 + 1 * p.val; omega
    | ⟨2, _⟩ => show 512 * h.val + q.val = 512 * h.val + 1 * q.val; omega
  unfold chunkV
  rw [e]
  refine (Rect.glue_emb partR parts_cov parts_disj (fun h => qv m ρ c j h) h _).trans ?_
  rw [← tile_y H c j h p q]
  unfold qv tileV k0_pay6
  exact shapeCast_ab_1ab_apply _ _ (0 : Fin 1) p q

/-! ## The maximum -/

omit H in
/-- The running maximum after `n` tiles, by its bounds. -/
theorem amN_le (c : Dev nD) (n : ℕ) (B : EReal) : amN m ρ c n ≤ B ↔ 0 ≤ B ∧ ∀ t < n, ∀ i,
    k0_pay5 (F := Ideal) (xv m ρ c) (wL m c ⟨t / 2 % 8, Nat.mod_lt _ (by decide)⟩ ⟨t % 2, Nat.mod_lt _ (by decide)⟩) i ≤ B := by
  induction n with
  | zero =>
    show Ideal.ofBits .f32 0x00000000#32 ≤ B ↔ _
    rw [zero_word]
    exact ⟨fun h => ⟨h, fun t ht => absurd ht (Nat.not_lt_zero t)⟩, fun h => h.1⟩
  | succ n ih =>
    refine (amV_le _ _ _ B).trans ?_
    rw [ih]
    constructor
    · rintro ⟨⟨h0, h1⟩, h2⟩
      refine ⟨h0, fun t ht i => ?_⟩
      rcases Nat.lt_succ_iff_lt_or_eq.mp ht with h | rfl
      · exact h1 t h i
      · exact h2 i
    · rintro ⟨h0, h1⟩
      exact ⟨⟨h0, fun t ht => h1 t (Nat.lt_succ_of_lt ht)⟩, h1 n (Nat.lt_succ_self n)⟩
/-- A device's maximum is over its rows of the product. -/
theorem am16_le (c : Dev nD) (B : EReal) : amN m ρ c 16 ≤ B ↔ 0 ≤ B ∧ ∀ p b, prodY X W (lineOf c p) b ≤ B := by
  rw [amN_le]
  refine and_congr_right fun _ => ⟨fun h p b => ?_, fun h t ht i => ?_⟩
  · obtain ⟨d, e, rfl⟩ := exists_col b
    obtain ⟨s, q, rfl⟩ := exists_half e
    obtain ⟨j, rfl⟩ := exists_fwd c d
    rw [← tile_y H c j s p q]
    have ht := h (2 * j.val + s.val) (by omega) (ix2 p q)
    have h₁ : (⟨(2 * j.val + s.val) / 2 % 8, Nat.mod_lt _ (by decide)⟩ : Fin 8) = j := Fin.ext (by show (2 * j.val + s.val) / 2 % 8 = j.val; omega)
    have h₂ : (⟨(2 * j.val + s.val) % 2, Nat.mod_lt _ (by decide)⟩ : Fin 2) = s := Fin.ext (by show (2 * j.val + s.val) % 2 = s.val; omega)
    rwa [h₁, h₂] at ht
  · rw [eq_ix2 i]
    exact (le_of_eq (tile_y H c _ _ _ _)).trans (h _ _)

omit H in
/-- A row of maxima holds the maximum throughout. -/
theorem txV_at (a : EReal) (i : S1x128.Idx) : txV (F := Ideal) a i = a := by
  unfold txV
  rw [shapeCast_self]; rfl
omit H in
/-- Row `k` of what a device receives is the maximum of the device `k` places back. -/
theorem am_at (c : Dev nD) (k : Fin 8) (l : Fin 128) : am m ρ c (ix2 k l) = amN m ρ (back c k) 16 := by
  have e : (ix2 k l : S8x128.Idx) = (rowR k).emb (ix2 (0 : Fin 1) l : S1x128.Idx) := by
    funext a; apply Fin.ext
    rw [Rect.emb_apply]
    match a with
    | ⟨0, _⟩ => show k.val = k.val + 1 * 0; omega
    | ⟨1, _⟩ => show l.val = 0 + 1 * l.val; omega
  unfold am
  rw [e]
  refine (Rect.glue_emb rowR rows_cov rows_disj (fun k => tx m ρ (back c k)) k _).trans ?_
  exact txV_at _ _

/-- The maximum that every device takes of what it receives is over the whole product. -/
theorem max_le (c : Dev nD) (B : EReal) : k0_pay55 (am m ρ c) ≤ B ↔ 0 ≤ B ∧ ∀ a b, prodY X W a b ≤ B := by
  rw [pay55_le]
  constructor
  · intro h
    refine ⟨((am16_le H _ B).mp ((le_of_eq (am_at c 0 0).symm).trans (h _))).1, fun a b => ?_⟩
    obtain ⟨s, p, rfl⟩ := exists_line a
    obtain ⟨k, rfl⟩ := exists_row c s
    exact ((am16_le H _ B).mp ((le_of_eq (am_at c k 0).symm).trans (h _))).2 p b
  · rintro ⟨h0, h1⟩ i
    rw [eq_ix2 i]
    exact (le_of_eq (am_at c _ _)).trans ((am16_le H _ B).mpr ⟨h0, fun p b => h1 _ b⟩)

/-! ## The kernel's result -/

omit H in
/-- The inverse scale, from a maximum; -/
theorem pay57_eq (a : Vec Ideal S8x128 .f32) : k0_pay57 a = if 0 < k0_pay55 a then Ideal.div ((448 : ℝ) : EReal) (k0_pay55 a) else 0 := by
  rw [← zero_word, ← top_word]
  unfold k0_pay57
  generalize k0_pay55 a = g
  change Scalar.select (Ideal.cmp .ogt g (Ideal.ofBits .f32 0x00000000#32)) (Ideal.div (Ideal.ofBits .f32 0x43E00000#32) g) (Ideal.ofBits .f32 0x00000000#32) = _
  generalize Ideal.ofBits .f32 0x00000000#32 = z
  by_cases h : z < g
  · rw [if_pos h]
    have hc : Ideal.cmp .ogt g z = 1#1 := by simp [Ideal.cmp, h]
    rw [hc, select_one]
  · rw [if_neg h]
    have hc : Ideal.cmp .ogt g z = 0#1 := by simp [Ideal.cmp, h]
    rw [hc, select_zero]
omit H in
/-- and the scale. -/
theorem pay56_eq (a : Vec Ideal S8x128 .f32) : k0_pay56 a = Ideal.div (k0_pay55 a) ((448 : ℝ) : EReal) := by
  rw [← top_word]
  unfold k0_pay56
  generalize k0_pay55 a = g
  rfl
omit H in
/-- The inverse scale that a device uses, -/
theorem inv_eq (c : Dev nD) : inv m ρ c = if 0 < k0_pay55 (am m ρ c) then Ideal.div ((448 : ℝ) : EReal) (k0_pay55 (am m ρ c)) else 0 := pay57_eq _
omit H in
/-- and the scale. -/
theorem sc_eq (c : Dev nD) : sc m ρ c = Ideal.div (k0_pay55 (am m ρ c)) ((448 : ℝ) : EReal) := pay56_eq _

omit H in
/-- An element of what a kept or a received wide chunk fills in, -/
theorem pay60_at (s i : EReal) (q : Vec Ideal S1x512x1024 .bf16) (p : Fin 512) (b : Fin 1024) :
    k0_pay60 (F := Ideal) s i q (ix2 p b) = min (max (q (ix3 (0 : Fin 1) p b)) 0 * i) ((448 : ℝ) : EReal) * s := by
  rw [← zero_word, ← top_word]
  unfold k0_pay60
  rw [mulf_apply, extf_apply, truncf_apply, minimumf_apply, mulf_apply, maximumf_apply, extf_apply]
  rw [shapeCast_1ab_ab_apply]; rfl
omit H in
/-- and of what a received narrow chunk fills in. -/
theorem pay66_at (s i : EReal) (q : Vec Ideal S1x512x1024 .bf16) (p : Fin 512) (b : Fin 1024) :
    k0_pay66 (F := Ideal) s (k0_pay58 (F := Ideal) i q) (ix2 p b) = min (max (q (ix3 (0 : Fin 1) p b)) 0 * i) ((448 : ℝ) : EReal) * s := by
  rw [← zero_word, ← top_word]
  unfold k0_pay66 k0_pay58
  rw [mulf_apply, extf_apply, shapeCast_1ab_ab_apply, shapeCast_ab_1ab_apply, truncf_apply, minimumf_apply, mulf_apply, maximumf_apply, extf_apply]
  rw [shapeCast_1ab_ab_apply]; rfl

/-- All devices take one maximum. -/
theorem max_same (c d : Dev nD) : k0_pay55 (am m ρ c) = k0_pay55 (am m ρ d) :=
  eq_of_forall_ge_iff fun B => (max_le H c B).trans (max_le H d B).symm

/-- An element of what chunk `r` fills in. -/
theorem block_at (c : Dev nD) (r : Fin 8) (p : Fin 512) (b : Fin 1024) :
    blockV m ρ c r (ix2 p b) = elemK (k0_pay55 (am m ρ c)) (max (prodY X W (lineOf (back c (r + 1)) p) (colOf c b)) 0) := by
  have hc : prodY X W (lineOf (back c (r + 1)) p) (colOf c b) = chunkV m ρ (back c (r + 1)) r (ix3 (0 : Fin 1) p b) := by
    rw [chunk_y H, fwd_back]
  have hi (d : Dev nD) : inv m ρ d = inv m ρ c := by rw [inv_eq, inv_eq, max_same H d c]
  unfold elemK
  rw [← sc_eq, ← inv_eq, hc]
  unfold blockV
  split
  · subst r; unfold q4V; rw [pay66_at, hi]; rfl
  split
  · subst r; unfold q4V; rw [pay66_at, hi]; rfl
  exact pay60_at _ _ _ p b

/-- An element of a device's result. -/
theorem out_at (c : Dev nD) (a : Fin 4096) (b : Fin 1024) :
    out m ρ c (ix2 a b) = elemK (k0_pay55 (am m ρ c)) (max (prodY X W a (colOf c b)) 0) := by
  obtain ⟨s, p, rfl⟩ := exists_line a
  obtain ⟨r, rfl⟩ := exists_back c s
  have e : (ix2 (lineOf (back c (r + 1)) p) b : S4096x1024.Idx) = (rowsR c r).emb (ix2 p b : S512x1024.Idx) := by
    funext a; apply Fin.ext
    rw [Rect.emb_apply]
    match a with
    | ⟨0, _⟩ => show 512 * (back c (r + 1)).val + p.val = 512 * (back c (r + 1)).val + 1 * p.val; omega
    | ⟨1, _⟩ => show b.val = 0 + 1 * b.val; omega
  unfold out
  rw [e]
  refine (Rect.glue_emb (rowsR c) (out_cov c) (out_disj c) (blockV m ρ c) r _).trans ?_
  exact block_at H c r p b

end Cert.QMM

end
-- ==== Proof.Algebraic.lean ====
/-
The kernel computes what the reference computes, at the ideal floats.
-/
module

public import proofs.«01_k».proof.Proof.Elements
public import proofs.«01_k».proof.Proof.Launch
public import proofs.«01_k».proof.Proof.Gen.ReferenceIdeal.Value
public import proofs.«01_k».proof.Defs

@[expose] public section

noncomputable section

namespace Cert.QMM

open scoped BigOperators
open Cert.KernelIdeal Cert.KernelIdeal.Gen
open Idealize.ShloMosaic
open Idealize.ShloMosaic.TcCoe
open Idealize.ShloMosaic.ValueIdx
open Idealize.SL.Sem

/-! ## The reference's result -/

variable (X : FVec Ideal ⟨2, ![4096, 4096]⟩ .f32) (W : FVec Ideal ⟨2, ![4096, 8192]⟩ .f32)

/-- The reference's product, its negative elements replaced by zero. -/
def reluR : FVec Ideal ⟨2, ![4096, 8192]⟩ .f32 :=
  maximumf (matmul Cert.ReferenceIdeal.dot_S4096x4096_S4096x8192_S4096x8192_1_0_0_1_n_n none X W (constant (F := Ideal) ⟨2, ![4096, 8192]⟩ .f32 0x00000000#32))
    (broadcast ⟨2, ![4096, 8192]⟩ (Scalar.ofBits (F := Ideal) .f32 0x00000000#32))
/-- The reference's maximum. -/
def maxR : EReal :=
  extractAt (α := EReal) ![0, 0, 0] (shapeCast Cert.ReferenceIdeal.S1x1x1 (multiReduction (F := Ideal) .maximumf [1, 2] Cert.ReferenceIdeal.S1
    (shapeCast Cert.ReferenceIdeal.S1x4096x8192 (absf (reluR X W)) Cert.ReferenceIdeal.Gen.shapeCasts_S4096x8192_S1x4096x8192) 0xFF800000#32
    Cert.ReferenceIdeal.Gen.reduces_S1x4096x8192_S1 (.inl rfl) rfl) Cert.ReferenceIdeal.Gen.shapeCasts_S1_S1x1x1) Cert.ReferenceIdeal.Gen.inpos_S1x1x1_p0_0_0

/-- An element of the reference's product. -/
theorem relu_at (a : Fin 4096) (b : Fin 8192) : reluR X W (ix2 a b) = max (prodY X W a b) 0 := by
  unfold reluR
  rw [maximumf_apply, broadcast_apply]
  show max (FloatOps.matmul (F := Ideal) (DotDims.plain 4096 4096 8192) none X W (constant ⟨2, ![4096, 8192]⟩ .f32 0x00000000#32) (ix2 a b)) (Ideal.ofBits .f32 0x00000000#32) = _
  rw [Ideal.matmul_plain_apply, constant_apply, zero_word, zero_add]
  rfl

/-- The reference's maximum, by its bounds: no element of the product, nor zero, is above it. -/
theorem maxR_le (B : EReal) : maxR X W ≤ B ↔ 0 ≤ B ∧ ∀ a b, prodY X W a b ≤ B := by
  have h0 : maxR X W ≤ B ↔ ∀ i, absf (reluR X W) i ≤ B := by
    unfold maxR extractAt
    rw [← cast_le (absf (reluR X W)) Cert.ReferenceIdeal.Gen.shapeCasts_S4096x8192_S1x4096x8192]
    exact reduce_le _ _ _ _ _ B
  have h1 (a : Fin 4096) (b : Fin 8192) : absf (reluR X W) (ix2 a b) = max (prodY X W a b) 0 := by
    show max (reluR X W (ix2 a b)) (-(reluR X W (ix2 a b))) = _
    rw [relu_at]
    refine max_eq_left (le_trans ?_ (le_max_right _ 0))
    have := EReal.neg_le_neg_iff.mpr (le_max_right (prodY X W a b) 0)
    rwa [neg_zero] at this
  rw [h0]
  constructor
  · intro h
    refine ⟨?_, fun a b => ?_⟩
    · have := h (ix2 0 0); rw [h1] at this; exact (le_max_right _ _).trans this
    · have := h (ix2 a b); rw [h1] at this; exact (le_max_left _ _).trans this
  · rintro ⟨hz, h⟩ i
    rw [eq_ix2 i]
    exact (le_of_eq (h1 _ _)).trans (_root_.max_le (h _ _) hz)

/-- An element of the reference's result. -/
theorem ref_at (a : Fin 4096) (b : Fin 8192) :
    Cert.ReferenceIdeal.Gen.k0_pay1 (F := Ideal) X W (ix2 a b) = elemR (maxR X W) (max (prodY X W a b) 0) := by
  rw [← relu_at]
  unfold elemR
  rw [← top_word]
  show min (Ideal.div (reluR X W (ix2 a b)) (Ideal.div (maxR X W) (Ideal.ofBits .f32 0x43E00000#32))) (Ideal.ofBits .f32 0x43E00000#32)
    * Ideal.div (maxR X W) (Ideal.ofBits .f32 0x43E00000#32) = _
  rfl

/-! ## The two results -/

variable {X W}
variable {m : (ℓ : Loc nD τ sig) → Buf (Elt Ideal) ℓ} {ρ : Dev nD → PrngReg}

/-- An element of the kernel's result is the reference's. -/
theorem out_ref (H : Holds m ρ X W) (c : Dev nD) (a : Fin 4096) (b : Fin 1024) :
    out m ρ c (ix2 a b) = Cert.ReferenceIdeal.Gen.k0_pay1 (F := Ideal) X W (ix2 a (colOf c b)) := by
  have hg : k0_pay55 (am m ρ c) = maxR X W := eq_of_forall_ge_iff fun B => (max_le H c B).trans (maxR_le X W B).symm
  have hb := (maxR_le X W (maxR X W)).mp le_rfl
  rw [out_at H, ref_at, hg]
  exact elem_eq _ _ (le_max_right _ _) (_root_.max_le (hb.2 _ _) hb.1)

/-- A device's block of columns of the reference's result is its own result. -/
theorem out_block (H : Holds m ρ X W) (c : Dev nD) :
    out m ρ c = Layout.block ⟨2, ![4096, 1024]⟩ ⟨2, ![4096, 8192]⟩ 1 8 c (Cert.ReferenceIdeal.Gen.k0_pay1 (F := Ideal) X W) := by
  funext i
  rw [eq_ix2 i]
  refine (out_ref H c _ _).trans (congrArg (Cert.ReferenceIdeal.Gen.k0_pay1 (F := Ideal) X W) ?_)
  funext a; apply Fin.ext
  match a with
  | ⟨0, _⟩ => rfl
  | ⟨1, _⟩ => exact congrArg (· + _) (Nat.mul_comm _ _)

/-- A device whose operands are its rows of `X` and the whole of `W` computes with them. -/
theorem shards (hm : ∀ c : Dev nD, m ((c : Thread nD τ).loc main_arg0) = Layout.block ⟨2, ![512, 4096]⟩ ⟨2, ![4096, 4096]⟩ 0 8 c X
      ∧ m ((c : Thread nD τ).loc main_arg1) = W) : Holds m ρ X W where
  w c := (hm c).2
  x c p k := by
    unfold xv
    show m ((c : Thread nD τ).loc main_arg0) ((win0_0.blk (0 : Fin 1)).view.emb (ix2 p k)) = _
    rw [(hm c).1]
    refine congrArg X ?_
    funext a; apply Fin.ext
    match a with
    | ⟨0, _⟩ => show c.val * 512 + (0 * 512 + 1 * p.val) = 512 * c.val + p.val; omega
    | ⟨1, _⟩ => show (0 * 4096 + 1 * k.val) = k.val; omega

/-- At the ideal floats, from any operands: the kernel's results are the blocks of columns of the reference's. -/
theorem algebraic : Cert.algebraic_KernelIdeal_ReferenceIdeal := fun m g m' g' _ hm =>
  ⟨Cert.ReferenceIdeal.Gen.k0_pay1 (F := Ideal) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run _ _ _).mono (fun r h c => ⟨(h.1 c).1.trans (out_block (shards hm) c), (h.1 c).2⟩) (run_main (F := Ideal) m g),
    (θ_run _ _ _).mono (fun r h => h 0) (Cert.ReferenceIdeal.Value.run (F := Ideal) m' g')⟩

end Cert.QMM

end
-- ==== Proof.lean ====
/-
The claims of this certificate, put together.
-/
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Value

@[expose] public section

noncomputable section

namespace Cert.Proof

open Idealize.ShloMosaic Idealize.SL.Sem

/-- The claims, under the facts that the printed programs state. -/
theorem claim : Cert.Claim := ⟨Cert.Kernel.Gen.facts, Cert.KernelIdeal.Gen.facts, Cert.ReferenceIdeal.Gen.facts,
  Cert.QMM.frame_kernel, Cert.QMM.frame_kernelIdeal, Cert.QMM.frame_reference, trivial, Cert.QMM.algebraic⟩

end Cert.Proof

end
